-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S8192x512 : Shape := ⟨2, ![8192, 512]⟩
abbrev S9x2x256x256 : Shape := ⟨4, ![9, 2, 256, 256]⟩
abbrev S8x2x256x256 : Shape := ⟨4, ![8, 2, 256, 256]⟩
abbrev S8x2 : Shape := ⟨2, ![8, 2]⟩
abbrev S7x2 : Shape := ⟨2, ![7, 2]⟩
abbrev S_ : Shape := ⟨0, ![]⟩
abbrev S256x256 : Shape := ⟨2, ![256, 256]⟩
abbrev S1x1x256x256 : Shape := ⟨4, ![1, 1, 256, 256]⟩
abbrev S1x1 : Shape := ⟨2, ![1, 1]⟩

abbrev nBuf : Space → Nat
  | .hbm => 3
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S8192x512, .f32⟩
  | .local _ .vmem, ⟨0, _⟩ => ⟨S512x256, .f32⟩
  | .local _ .vmem, ⟨1, _⟩ => ⟨S256x512, .f32⟩
  | .local _ .vmem, ⟨2, _⟩ => ⟨S8192x512, .f32⟩
  | .local _ .vmem, ⟨3, _⟩ => ⟨S9x2x256x256, .f32⟩
  | .local _ .vmem, ⟨4, _⟩ => ⟨S8x2x256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  (ofTc nBuf bufTy 1 63 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_48 : BitVec 32 := 1#32
  let v50 : BitVec 32 := Scalar.muli v24 c1_i32_48
  let v51 : BitVec 32 := Scalar.addi c0_i32_49 v50
  v51.toNat
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_62 : BitVec 32 := 1#32
  let v60 : BitVec 32 := Scalar.muli v24 c1_i32_62
  let v61 : BitVec 32 := Scalar.addi c0_i32_63 v60
  v61.toNat
def k0_dev5 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_76 : BitVec 32 := 1#32
  let v70 : BitVec 32 := Scalar.muli v13 c1_i32_76
  let v71 : BitVec 32 := Scalar.addi c0_i32_77 v70
  v71.toNat
def k0_dev6 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_90 : BitVec 32 := 1#32
  let v80 : BitVec 32 := Scalar.muli v13 c1_i32_90
  let v81 : BitVec 32 := Scalar.addi c0_i32_91 v80
  v81.toNat
def k0_off1 (d0 : Dev nD) (c0_i32_100 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v95 : BitVec 32 := Scalar.muli v2 c512_i32
  let v96 : BitVec 32 := Scalar.addi v95 c0_i32_100
  let v97 : Index := Scalar.indexCast v96
  let c0_101 : Index := 0#32
  ![v97.toNat, 0]
def k0_dev7 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_131 : BitVec 32 := 1#32
  let v116 : BitVec 32 := Scalar.muli v24 c1_i32_131
  let v117 : BitVec 32 := Scalar.addi c0_i32_132 v116
  v117.toNat
def k0_dev8 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_159 : BitVec 32 := 1#32
  let v134 : BitVec 32 := Scalar.muli v24 c1_i32_159
  let v135 : BitVec 32 := Scalar.addi c0_i32_160 v134
  v135.toNat
def k0_dev9 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_187 : BitVec 32 := 1#32
  let v152 : BitVec 32 := Scalar.muli v13 c1_i32_187
  let v153 : BitVec 32 := Scalar.addi c0_i32_188 v152
  v153.toNat
def k0_dev10 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_215 : BitVec 32 := 1#32
  let v170 : BitVec 32 := Scalar.muli v13 c1_i32_215
  let v171 : BitVec 32 := Scalar.addi c0_i32_216 v170
  v171.toNat
def k0_off2 (d0 : Dev nD) (c1_i32_225 : BitVec 32) (c0_i32_236 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v182 : BitVec 32 := Scalar.subi v2 c1_i32_225
  let c16_i32_226 : BitVec 32 := 16#32
  let c0_i32_227 : BitVec 32 := 0#32
  let v183 : BitVec 1 := Scalar.cmpi .eq c16_i32_226 c0_i32_227
  let c1_i32_228 : BitVec 32 := 1#32
  let v184 : BitVec 32 := Scalar.select v183 c1_i32_228 c16_i32_226
  let v185 : BitVec 32 := Scalar.remsi v182 v184
  let c0_i32_230 : BitVec 32 := 0#32
  let v187 : BitVec 1 := Scalar.cmpi .slt v185 c0_i32_230
  let c0_i32_231 : BitVec 32 := 0#32
  let v188 : BitVec 1 := Scalar.cmpi .slt v184 c0_i32_231
  let v189 : BitVec 1 := Scalar.xori v187 v188
  let c0_i32_229 : BitVec 32 := 0#32
  let v186 : BitVec 1 := Scalar.cmpi .ne v185 c0_i32_229
  let v190 : BitVec 1 := Scalar.andi v189 v186
  let v191 : BitVec 32 := Scalar.addi v185 v184
  let v192 : BitVec 32 := Scalar.select v190 v191 v185
  let c512_i32_235 : BitVec 32 := 512#32
  let v196 : BitVec 32 := Scalar.muli v192 c512_i32_235
  let v197 : BitVec 32 := Scalar.addi v196 c0_i32_236
  let v198 : Index := Scalar.indexCast v197
  let c0_237 : Index := 0#32
  ![v198.toNat, 0]
def k0_off3 (d0 : Dev nD) (c1_i32_259 : BitVec 32) (c0_i32_270 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v222 : BitVec 32 := Scalar.addi v2 c1_i32_259
  let c16_i32_260 : BitVec 32 := 16#32
  let c0_i32_261 : BitVec 32 := 0#32
  let v223 : BitVec 1 := Scalar.cmpi .eq c16_i32_260 c0_i32_261
  let c1_i32_262 : BitVec 32 := 1#32
  let v224 : BitVec 32 := Scalar.select v223 c1_i32_262 c16_i32_260
  let v225 : BitVec 32 := Scalar.remsi v222 v224
  let c0_i32_264 : BitVec 32 := 0#32
  let v227 : BitVec 1 := Scalar.cmpi .slt v225 c0_i32_264
  let c0_i32_265 : BitVec 32 := 0#32
  let v228 : BitVec 1 := Scalar.cmpi .slt v224 c0_i32_265
  let v229 : BitVec 1 := Scalar.xori v227 v228
  let c0_i32_263 : BitVec 32 := 0#32
  let v226 : BitVec 1 := Scalar.cmpi .ne v225 c0_i32_263
  let v230 : BitVec 1 := Scalar.andi v229 v226
  let v231 : BitVec 32 := Scalar.addi v225 v224
  let v232 : BitVec 32 := Scalar.select v230 v231 v225
  let c512_i32_269 : BitVec 32 := 512#32
  let v236 : BitVec 32 := Scalar.muli v232 c512_i32_269
  let v237 : BitVec 32 := Scalar.addi v236 c0_i32_270
  let v238 : Index := Scalar.indexCast v237
  let c0_271 : Index := 0#32
  ![v238.toNat, 0]
def k0_dev11 (d0 : Dev nD) : Nat :=
  let c0_i32_311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_310 : BitVec 32 := 1#32
  let v268 : BitVec 32 := Scalar.muli v24 c1_i32_310
  let v269 : BitVec 32 := Scalar.addi c0_i32_311 v268
  v269.toNat
def k0_dev12 (d0 : Dev nD) : Nat :=
  let c0_i32_339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_338 : BitVec 32 := 1#32
  let v286 : BitVec 32 := Scalar.muli v24 c1_i32_338
  let v287 : BitVec 32 := Scalar.addi c0_i32_339 v286
  v287.toNat
def k0_dev13 (d0 : Dev nD) : Nat :=
  let c0_i32_367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_366 : BitVec 32 := 1#32
  let v304 : BitVec 32 := Scalar.muli v13 c1_i32_366
  let v305 : BitVec 32 := Scalar.addi c0_i32_367 v304
  v305.toNat
def k0_dev14 (d0 : Dev nD) : Nat :=
  let c0_i32_395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_394 : BitVec 32 := 1#32
  let v322 : BitVec 32 := Scalar.muli v13 c1_i32_394
  let v323 : BitVec 32 := Scalar.addi c0_i32_395 v322
  v323.toNat
def k0_dev15 (d0 : Dev nD) : Nat :=
  let c0_i32_489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_488 : BitVec 32 := 1#32
  let v420 : BitVec 32 := Scalar.muli v24 c1_i32_488
  let v421 : BitVec 32 := Scalar.addi c0_i32_489 v420
  v421.toNat
def k0_dev16 (d0 : Dev nD) : Nat :=
  let c0_i32_517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_516 : BitVec 32 := 1#32
  let v438 : BitVec 32 := Scalar.muli v24 c1_i32_516
  let v439 : BitVec 32 := Scalar.addi c0_i32_517 v438
  v439.toNat
def k0_dev17 (d0 : Dev nD) : Nat :=
  let c0_i32_545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_544 : BitVec 32 := 1#32
  let v456 : BitVec 32 := Scalar.muli v13 c1_i32_544
  let v457 : BitVec 32 := Scalar.addi c0_i32_545 v456
  v457.toNat
def k0_dev18 (d0 : Dev nD) : Nat :=
  let c0_i32_573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_572 : BitVec 32 := 1#32
  let v474 : BitVec 32 := Scalar.muli v13 c1_i32_572
  let v475 : BitVec 32 := Scalar.addi c0_i32_573 v474
  v475.toNat
def k0_dev19 (d0 : Dev nD) : Nat :=
  let c0_i32_667 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_666 : BitVec 32 := 1#32
  let v572 : BitVec 32 := Scalar.muli v24 c1_i32_666
  let v573 : BitVec 32 := Scalar.addi c0_i32_667 v572
  v573.toNat
def k0_dev20 (d0 : Dev nD) : Nat :=
  let c0_i32_695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_694 : BitVec 32 := 1#32
  let v590 : BitVec 32 := Scalar.muli v24 c1_i32_694
  let v591 : BitVec 32 := Scalar.addi c0_i32_695 v590
  v591.toNat
def k0_dev21 (d0 : Dev nD) : Nat :=
  let c0_i32_723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_722 : BitVec 32 := 1#32
  let v608 : BitVec 32 := Scalar.muli v13 c1_i32_722
  let v609 : BitVec 32 := Scalar.addi c0_i32_723 v608
  v609.toNat
def k0_dev22 (d0 : Dev nD) : Nat :=
  let c0_i32_751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_750 : BitVec 32 := 1#32
  let v626 : BitVec 32 := Scalar.muli v13 c1_i32_750
  let v627 : BitVec 32 := Scalar.addi c0_i32_751 v626
  v627.toNat
def k0_dev23 (d0 : Dev nD) : Nat :=
  let c0_i32_845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_844 : BitVec 32 := 1#32
  let v724 : BitVec 32 := Scalar.muli v24 c1_i32_844
  let v725 : BitVec 32 := Scalar.addi c0_i32_845 v724
  v725.toNat
def k0_dev24 (d0 : Dev nD) : Nat :=
  let c0_i32_873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_872 : BitVec 32 := 1#32
  let v742 : BitVec 32 := Scalar.muli v24 c1_i32_872
  let v743 : BitVec 32 := Scalar.addi c0_i32_873 v742
  v743.toNat
def k0_dev25 (d0 : Dev nD) : Nat :=
  let c0_i32_901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_900 : BitVec 32 := 1#32
  let v760 : BitVec 32 := Scalar.muli v13 c1_i32_900
  let v761 : BitVec 32 := Scalar.addi c0_i32_901 v760
  v761.toNat
def k0_dev26 (d0 : Dev nD) : Nat :=
  let c0_i32_929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_928 : BitVec 32 := 1#32
  let v778 : BitVec 32 := Scalar.muli v13 c1_i32_928
  let v779 : BitVec 32 := Scalar.addi c0_i32_929 v778
  v779.toNat
def k0_dev27 (d0 : Dev nD) : Nat :=
  let c0_i32_1023 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1022 : BitVec 32 := 1#32
  let v876 : BitVec 32 := Scalar.muli v24 c1_i32_1022
  let v877 : BitVec 32 := Scalar.addi c0_i32_1023 v876
  v877.toNat
def k0_dev28 (d0 : Dev nD) : Nat :=
  let c0_i32_1051 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1050 : BitVec 32 := 1#32
  let v894 : BitVec 32 := Scalar.muli v24 c1_i32_1050
  let v895 : BitVec 32 := Scalar.addi c0_i32_1051 v894
  v895.toNat
def k0_dev29 (d0 : Dev nD) : Nat :=
  let c0_i32_1079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1078 : BitVec 32 := 1#32
  let v912 : BitVec 32 := Scalar.muli v13 c1_i32_1078
  let v913 : BitVec 32 := Scalar.addi c0_i32_1079 v912
  v913.toNat
def k0_dev30 (d0 : Dev nD) : Nat :=
  let c0_i32_1107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1106 : BitVec 32 := 1#32
  let v930 : BitVec 32 := Scalar.muli v13 c1_i32_1106
  let v931 : BitVec 32 := Scalar.addi c0_i32_1107 v930
  v931.toNat
def k0_dev31 (d0 : Dev nD) : Nat :=
  let c0_i32_1201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1200 : BitVec 32 := 1#32
  let v1028 : BitVec 32 := Scalar.muli v24 c1_i32_1200
  let v1029 : BitVec 32 := Scalar.addi c0_i32_1201 v1028
  v1029.toNat
def k0_dev32 (d0 : Dev nD) : Nat :=
  let c0_i32_1229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1228 : BitVec 32 := 1#32
  let v1046 : BitVec 32 := Scalar.muli v24 c1_i32_1228
  let v1047 : BitVec 32 := Scalar.addi c0_i32_1229 v1046
  v1047.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x256 : Shape := ⟨2, ![8192, 256]⟩
abbrev S256x512 : Shape := ⟨2, ![256, 512]⟩
abbrev S8192x512 : Shape := ⟨2, ![8192, 512]⟩

abbrev nBuf : Space → Nat
  | .hbm => 3
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x512, .f32⟩
  | .hbm, ⟨2, _⟩ => ⟨S8192x512, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Steps.lean ====
/-
The kernel body as a LIST of steps.

Every device of the ring of sixteen runs the same straight line of 4 stores into its own slots, 30 transfers,
30 waits for an arriving block, 32 matrix products and 30 waits for its own transfers. This module names the
slots of the two gather buffers, the transfers and the four kinds of step, and proves that the printed body is
the run of one list of them (`body_eq`).
-/
module

public import proofs.«01_k».proof.Proof.Gen.KernelIdeal.Frame

@[expose] public section

noncomputable section

namespace Cert.KernelIdeal.Ring

open Cert.KernelIdeal Cert.KernelIdeal.Gen
open Idealize.ShloMosaic Idealize.ShloMosaic.TcCoe Idealize.SL.Sem

variable {F : FTy → Type} [FloatOps F]

/-! ## Slots and transfers -/

/-- A slot of a gather buffer: `inl (h, b)` is half `b` of the block `h` hops to the left, in the clockwise
    buffer; `inr (h, b)` is half `b` of the block `h` hops to the right, in the counter-clockwise buffer. -/
abbrev Slot : Type := (Fin 9 × Fin 2) ⊕ (Fin 8 × Fin 2)

/-- A transfer a device issues: `inl (k, b)` sends its clockwise slot `(k, b)` to the right neighbour's slot
    `(k + 1, b)`; `inr (k, b)` its counter-clockwise slot `(k, b)` to the left neighbour's slot `(k + 1, b)`. -/
abbrev Xfer : Type := (Fin 8 × Fin 2) ⊕ (Fin 7 × Fin 2)

/-- The slot a transfer reads, on the sender. -/
def src : Xfer → Slot
  | .inl (k, b) => .inl (k.castSucc, b)
  | .inr (k, b) => .inr (k.castSucc, b)

/-- The slot a transfer writes, on the receiver. -/
def dst : Xfer → Slot
  | .inl (k, b) => .inl (k.succ, b)
  | .inr (k, b) => .inr (k.succ, b)

theorem inbL (h : Fin 9) (b : Fin 2) : ∀ a, (![h.val, b.val, 0, 0] : Fin 4 → Nat) a + S1x1x256x256.size a ≤ S9x2x256x256.size a := by
  intro a; fin_cases a
  · show h.val + 1 ≤ 9; omega
  · show b.val + 1 ≤ 2; omega
  · show 0 + 256 ≤ 256; omega
  · show 0 + 256 ≤ 256; omega

theorem inbR (h : Fin 8) (b : Fin 2) : ∀ a, (![h.val, b.val, 0, 0] : Fin 4 → Nat) a + S1x1x256x256.size a ≤ S8x2x256x256.size a := by
  intro a; fin_cases a
  · show h.val + 1 ≤ 8; omega
  · show b.val + 1 ≤ 2; omega
  · show 0 + 256 ≤ 256; omega
  · show 0 + 256 ≤ 256; omega

theorem inbSL (h : Fin 8) (b : Fin 2) : ∀ a, (![h.val, b.val] : Fin 2 → Nat) a + S1x1.size a ≤ S8x2.size a := by
  intro a; fin_cases a
  · show h.val + 1 ≤ 8; omega
  · show b.val + 1 ≤ 2; omega

theorem inbSR (h : Fin 7) (b : Fin 2) : ∀ a, (![h.val, b.val] : Fin 2 → Nat) a + S1x1.size a ≤ S7x2.size a := by
  intro a; fin_cases a
  · show h.val + 1 ≤ 7; omega
  · show b.val + 1 ≤ 2; omega

theorem inbA (b : Fin 2) : ∀ a, (![256 * b.val, 0] : Fin 2 → Nat) a + S256x256.size a ≤ S512x256.size a := by
  intro a; fin_cases a
  · show 256 * b.val + 256 ≤ 512; omega
  · show 0 + 256 ≤ 256; omega

/-- The box of a clockwise slot in its buffer. -/
abbrev rectL (h : Fin 9) (b : Fin 2) : Rect S9x2x256x256 := Rect.unit (s := S9x2x256x256) ![h.val, b.val, 0, 0] S1x1x256x256.size (inbL h b)
/-- The box of a counter-clockwise slot in its buffer. -/
abbrev rectR (h : Fin 8) (b : Fin 2) : Rect S8x2x256x256 := Rect.unit (s := S8x2x256x256) ![h.val, b.val, 0, 0] S1x1x256x256.size (inbR h b)
/-- The box of half `b` of the device's own block of rows. -/
abbrev rectA (b : Fin 2) : Rect S512x256 := Rect.unit (s := S512x256) ![256 * b.val, 0] S256x256.size (inbA b)
/-- The whole of the right factor. -/
abbrev rectB : Rect S256x512 := Rect.unit (s := S256x512) ![0, 0] S256x512.size inb_S256x512_S256x512_0_0

/-! ## The machine's names of slots, semaphores and neighbours -/

section Names

variable (arg0 : Memref sig .tc .vmem S512x256 .f32) (arg1 : Memref sig .tc .vmem S256x512 .f32) (arg2 : Memref sig .tc .vmem S8192x512 .f32)
  (arg3 : Memref sig .tc .vmem S9x2x256x256 .f32) (arg4 : Memref sig .tc .vmem S8x2x256x256 .f32)
  (arg5 arg6 : DmaSems sig S8x2) (arg7 arg8 : DmaSems sig S7x2)

/-- A slot as a 256 × 256 buffer region. -/
def slotM : Slot → Memref sig .tc .vmem S256x256 .f32
  | .inl (h, b) => (arg3.slice (rectL h b) (fun _ => rfl)).squeeze S256x256 squeezes_S1x1x256x256_S256x256
  | .inr (h, b) => (arg4.slice (rectR h b) (fun _ => rfl)).squeeze S256x256 squeezes_S1x1x256x256_S256x256

/-- The semaphore that says a transfer's source has been read. -/
def sendS : Xfer → DmaSem sig
  | .inl (k, b) => ((arg5.slice (Rect.unit (s := S8x2) ![k.val, b.val] S1x1.size (inbSL k b))).squeeze S_ squeezes_S1x1_S_).sem
  | .inr (k, b) => ((arg7.slice (Rect.unit (s := S7x2) ![k.val, b.val] S1x1.size (inbSR k b))).squeeze S_ squeezes_S1x1_S_).sem

/-- The semaphore that says a transfer's block has arrived. -/
def recvS : Xfer → DmaSem sig
  | .inl (k, b) => ((arg6.slice (Rect.unit (s := S8x2) ![k.val, b.val] S1x1.size (inbSL k b))).squeeze S_ squeezes_S1x1_S_).sem
  | .inr (k, b) => ((arg8.slice (Rect.unit (s := S7x2) ![k.val, b.val] S1x1.size (inbSR k b))).squeeze S_ squeezes_S1x1_S_).sem

/-- The device a transfer of device `d` writes to, as the kernel computes it. -/
def peer (d : Dev nD) : Xfer → Dev nD
  | .inl _ => ⟨k0_dev3 d, k0_dev3_lt d⟩
  | .inr _ => ⟨k0_dev5 d, k0_dev5_lt d⟩

theorem slot_exact (s : Slot) : (slotM arg3 arg4 s).view.WordExact := by
  rcases s with ⟨h, b⟩ | ⟨h, b⟩ <;> exact (View.wordExact_bits rfl).reshape _ _

/-- The product the kernel stores: a 256 × 256 half block times the right factor. -/
def prod (x : Vec F S256x256 .f32) (y : Vec F S256x512 .f32) : FVec F S256x512 .f32 :=
  matmul dot_S256x256_S256x512_S256x512_1_0_0_1_n_n none x (shapeCast S256x512 y shapeCasts_S256x512_S256x512) (constant S256x512 .f32 0x00000000#32)

/-- Where the product of the half block that transfer `j` brings goes in the result, as the kernel computes it. -/
def offX (d : Dev nD) : Xfer → Fin 2 → Nat
  | .inl (k, b) => k0_off2 d (BitVec.ofNat 32 (1 + k.val)) (BitVec.ofNat 32 (256 * b.val))
  | .inr (k, b) => k0_off3 d (BitVec.ofNat 32 (1 + k.val)) (BitVec.ofNat 32 (256 * b.val))

theorem offX_inb (d : Dev nD) (j : Xfer) : ∀ a, offX d j a + S256x512.size a ≤ S8192x512.size a := by
  rcases j with ⟨k, b⟩ | ⟨k, b⟩
  · exact k0_off2_inb d k b
  · exact k0_off3_inb d k b

/-- Where the product of half `b` of the device's own block goes. -/
def offO (d : Dev nD) (b : Fin 2) : Fin 2 → Nat := k0_off1 d (BitVec.ofNat 32 (256 * b.val))

theorem offO_inb (d : Dev nD) (b : Fin 2) : ∀ a, offO d b a + S256x512.size a ≤ S8192x512.size a := k0_off1_inb d b

abbrev rectX (d : Dev nD) (j : Xfer) : Rect S8192x512 := Rect.unit (s := S8192x512) (offX d j) S256x512.size (offX_inb d j)
abbrev rectO (d : Dev nD) (b : Fin 2) : Rect S8192x512 := Rect.unit (s := S8192x512) (offO d b) S256x512.size (offO_inb d b)

/-! ## The steps -/

/-- A load of a slot through its whole buffer. -/
def loadSlot : Slot → Prog (TpuEff nD τ sig (Elt F) Λ₀ .tc) (Vec F S1x1x256x256 .f32)
  | .inl (h, b) => Prog.lift (.load arg3 (rectL h b).toLoadRect (View.loadsAt_vmem h_S1x1x256x256))
  | .inr (h, b) => Prog.lift (.load arg4 (rectR h b).toLoadRect (View.loadsAt_vmem h_S1x1x256x256))

/-- A store into a slot through its whole buffer. -/
def storeSlot (v : FVec F S1x1x256x256 .f32) : Slot → Prog (TpuEff nD τ sig (Elt F) Λ₀ .tc) PUnit
  | .inl (h, b) => Prog.lift (.store arg3 (rectL h b) v Finset.univ (View.stores_vmem_bits_univ h_S1x1x256x256 rfl) (.inl rfl))
  | .inr (h, b) => Prog.lift (.store arg4 (rectR h b) v Finset.univ (View.stores_vmem_bits_univ h_S1x1x256x256 rfl) (.inl rfl))

/-- Slot 0 of one of the two buffers: where the device's own half `b` is put. -/
def home : Bool → Fin 2 → Slot
  | true, b => .inl (0, b)
  | false, b => .inr (0, b)

inductive Step : Type
  /-- put half `b` of the own block into slot 0 of a buffer (`true`: the clockwise one) -/
  | keep (w : Bool) (b : Fin 2)
  /-- start transfer `j` -/
  | send (j : Xfer)
  /-- wait for the arrival of the neighbour's transfer `j` -/
  | recv (j : Xfer)
  /-- multiply half `b` of the own block -/
  | own (b : Fin 2)
  /-- multiply the half block the neighbour's transfer `j` brought -/
  | mul (j : Xfer)
  /-- wait until transfer `j`'s source has been read -/
  | done (j : Xfer)
deriving DecidableEq

/-- What a step runs on device `d`. -/
def Step.run (d : Dev nD) : Step → Prog (TpuEff nD τ sig (Elt F) Λ₀ .tc) PUnit
  | .keep w b => do
      let v : Vec F S256x256 .f32 ← Prog.lift (.load arg0 (rectA b).toLoadRect (View.loadsAt_vmem h_S256x256))
      let _ ← loadSlot arg3 arg4 (home w b)
      storeSlot arg3 arg4 (shapeCast S1x1x256x256 (shapeCast S256x256 v shapeCasts_S256x256_S256x256) shapeCasts_S256x256_S1x1x256x256) (home w b)
  | .send j => Prog.lift (.enqueueDma (slotM arg3 arg4 (src j))
      (.remote (Dev.tc (peer d j)) (slotM arg3 arg4 (dst j)) (.dma (sendS arg5 arg7 j))) (.dma (recvS arg6 arg8 j))
      (slot_exact arg3 arg4 _) (slot_exact arg3 arg4 _) ⟨⟨rfl, Or.inl rfl⟩, trivial⟩)
  | .recv j => Prog.lift (.waitDma2 (recvS arg6 arg8 j) (slotM arg3 arg4 (src j)) (slotM arg3 arg4 (dst j))
      (slot_exact arg3 arg4 _) (slot_exact arg3 arg4 _))
  | .own b => do
      let v : Vec F S256x256 .f32 ← Prog.lift (.load arg0 (rectA b).toLoadRect (View.loadsAt_vmem h_S256x256))
      let y : Vec F S256x512 .f32 ← Prog.lift (.load arg1 rectB.toLoadRect (View.loadsAt_vmem h_S256x512))
      let _ ← (Prog.lift (.load arg2 (rectO d b).toLoadRect (View.loadsAt_vmem h_S256x512)) : Prog (TpuEff nD τ sig (Elt F) Λ₀ .tc) (Vec F S256x512 .f32))
      Prog.lift (.store arg2 (rectO d b) (prod (shapeCast S256x256 v shapeCasts_S256x256_S256x256) y) Finset.univ (View.stores_vmem_bits_univ h_S256x512 rfl) (.inl rfl))
  | .mul j => do
      let v : Vec F S1x1x256x256 .f32 ← loadSlot arg3 arg4 (dst j)
      let y : Vec F S256x512 .f32 ← Prog.lift (.load arg1 rectB.toLoadRect (View.loadsAt_vmem h_S256x512))
      let _ ← (Prog.lift (.load arg2 (rectX d j).toLoadRect (View.loadsAt_vmem h_S256x512)) : Prog (TpuEff nD τ sig (Elt F) Λ₀ .tc) (Vec F S256x512 .f32))
      Prog.lift (.store arg2 (rectX d j) (prod (shapeCast S256x256 v shapeCasts_S1x1x256x256_S256x256) y) Finset.univ (View.stores_vmem_bits_univ h_S256x512 rfl) (.inl rfl))
  | .done j => Prog.lift (.waitDma2 (sendS arg5 arg7 j) (slotM arg3 arg4 (dst j)) (slotM arg3 arg4 (src j))
      (slot_exact arg3 arg4 _) (slot_exact arg3 arg4 _))

/-- A list of steps, one after another. -/
def walk (d : Dev nD) : List Step → Prog (TpuEff nD τ sig (Elt F) Λ₀ .tc) PUnit
  | [] => pure ⟨⟩
  | s :: ss => s.run arg0 arg1 arg2 arg3 arg4 arg5 arg6 arg7 arg8 d >>= fun _ => walk d ss

/-! ## The body's list -/

/-- The clockwise transfers of hop `k` (none past the last). -/
def sendL (k : Nat) (b : Fin 2) : List Step := if h : k < 8 then [.send (.inl (⟨k, h⟩, b))] else []
/-- The counter-clockwise transfers of hop `k` (none past the last). -/
def sendR (k : Nat) (b : Fin 2) : List Step := if h : k < 7 then [.send (.inr (⟨k, h⟩, b))] else []

/-- The clockwise arrivals of hop `k`, each sent on as soon as it is there. -/
def arriveL (k : Fin 8) : List Step :=
  .recv (.inl (k, 0)) :: sendL (k.val + 1) 0 ++ .recv (.inl (k, 1)) :: sendL (k.val + 1) 1
/-- The counter-clockwise arrivals of hop `k`, each sent on as soon as it is there. -/
def arriveR (k : Fin 7) : List Step :=
  .recv (.inr (k, 0)) :: sendR (k.val + 1) 0 ++ .recv (.inr (k, 1)) :: sendR (k.val + 1) 1

/-- One hop in both directions: the arrivals, then their products. -/
def both (k : Fin 7) : List Step :=
  arriveL k.castSucc ++ arriveR k
    ++ [.mul (.inl (k.castSucc, 0)), .mul (.inl (k.castSucc, 1)), .mul (.inr (k, 0)), .mul (.inr (k, 1))]

/-- The last hop, clockwise alone. -/
def lastHop : List Step := arriveL 7 ++ [.mul (.inl (7, 0)), .mul (.inl (7, 1))]

/-- The transfers of hop `k` in the order they were issued, past hop 0. -/
def closing (k : Fin 7) : List Step :=
  [.done (.inl (k.castSucc, 0)), .done (.inl (k.castSucc, 1)), .done (.inr (k, 0)), .done (.inr (k, 1))]

/-- The body's steps after the entry handshake. -/
def steps : List Step :=
  [.keep true 0, .keep false 0, .keep true 1, .keep false 1]
    ++ [.send (.inl (0, 0)), .send (.inl (0, 1)), .send (.inr (0, 0)), .send (.inr (0, 1))]
    ++ [.own 0, .own 1]
    ++ (both 0 ++ both 1 ++ both 2 ++ both 3 ++ both 4 ++ both 5 ++ both 6 ++ lastHop)
    ++ (closing 0 ++ closing 1 ++ closing 2 ++ closing 3 ++ closing 4 ++ closing 5 ++ closing 6
      ++ [.done (.inl (7, 0)), .done (.inl (7, 1))])

/-- The entry handshake, then the steps. -/
def prog : Prog (TpuEff nD τ sig (Elt F) Λ₀ .tc) PUnit := do
  let d : Dev nD ← Prog.lift .deviceId
  semSignalWord (⟨k0_dev1 d, k0_dev1_lt d⟩ : Dev nD) (SemArray.scalar (sig.barrier 0 rfl) : Sems sig S_).sem 1#32
  semSignalWord (⟨k0_dev2 d, k0_dev2_lt d⟩ : Dev nD) (SemArray.scalar (sig.barrier 0 rfl) : Sems sig S_).sem 1#32
  semWaitWord (SemArray.scalar (sig.barrier 0 rfl) : Sems sig S_).sem 2#32
  walk arg0 arg1 arg2 arg3 arg4 arg5 arg6 arg7 arg8 d steps

end Names

end Cert.KernelIdeal.Ring

end
-- ==== Proof.Protocol.lean ====
/-
The ring's protocol: cells, what each of them hands over, levels, and the arithmetic of the ring.

A slot of a gather buffer is handed over together with the value it holds (`holds`), the value named by the device
the half block started on (`origin`). Each transfer has a cell on its sender (the sender gets half a share of the
source slot back) and a cell on its receiver (the receiver gets the slot filled). The entry handshake's cell
hands a device the slots its two neighbours receive into.
-/
module

public import proofs.«01_k».proof.Proof.Steps
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The rounds of the ring's cells: a duty is named by a truth value (which neighbour pays it). -/
abbrev UB : Type := URounds (GSem nD τ sig) Bool
/-- The pipeline's copy beside the ring's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring of sixteen -/

set_option backward.proofsInPublic true in
/-- The device `h` to the right. -/
def right (h : Nat) (c : Dev nD) : Dev nD := ⟨(c.val + h) % 16, Nat.mod_lt _ (by decide)⟩
set_option backward.proofsInPublic true in
/-- The device `h` to the left, for `h` up to 16. -/
def left (h : Nat) (c : Dev nD) : Dev nD := ⟨(c.val + (16 - h)) % 16, Nat.mod_lt _ (by decide)⟩

abbrev nxt (c : Dev nD) : Dev nD := right 1 c
abbrev prv (c : Dev nD) : Dev nD := left 1 c

theorem prv_nxt (c : Dev nD) : prv (nxt c) = c := by revert c; decide
theorem nxt_prv (c : Dev nD) : nxt (prv c) = c := by revert c; decide

/-- Going right, and back. -/
def ring : Dev nD ≃ Dev nD := ⟨nxt, prv, prv_nxt, nxt_prv⟩

/-- The device transfer `j` of device `c` writes to. -/
def nbr (c : Dev nD) : Xfer → Dev nD
  | .inl _ => nxt c
  | .inr _ => prv c

/-- The device whose transfer `j` writes to device `c`. -/
def giver (c : Dev nD) : Xfer → Dev nD
  | .inl _ => prv c
  | .inr _ => nxt c

theorem nbr_giver (c : Dev nD) (j : Xfer) : nbr (giver c j) j = c := by
  rcases j with j | j
  · exact nxt_prv c
  · exact prv_nxt c

theorem giver_nbr (c : Dev nD) (j : Xfer) : giver (nbr c j) j = c := by
  rcases j with j | j
  · exact prv_nxt c
  · exact nxt_prv c

/-- Everyone's neighbour for transfer `j`, and back. -/
def shift (j : Xfer) : Dev nD ≃ Dev nD := ⟨(nbr · j), (giver · j), (giver_nbr · j), (nbr_giver · j)⟩

/-- The kernel's computed neighbours are the ring's. -/
theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev5_eq (c : Dev nD) : (⟨k0_dev5 c, k0_dev5_lt c⟩ : Dev nD) = prv c := by revert c; decide +kernel

theorem peer_eq (c : Dev nD) (j : Xfer) : peer c j = nbr c j := by
  rcases j with j | j
  · exact dev3_eq c
  · exact dev5_eq c

/-- The device the half block in slot `s` of device `c` started on. -/
def origin (c : Dev nD) : Slot → Dev nD
  | .inl (h, _) => left h.val c
  | .inr (h, _) => right h.val c

/-- Which half of that device's block it is. -/
def half : Slot → Fin 2
  | .inl (_, b) => b
  | .inr (_, b) => b

/-- A transfer's source on the sender and its target on the receiver hold the same half block. -/
theorem origin_step (c : Dev nD) (j : Xfer) : origin (nbr c j) (dst j) = origin c (src j) := by
  rcases j with ⟨k, b⟩ | ⟨k, b⟩
  · apply Fin.ext
    show ((c.val + 1) % 16 + (16 - (k.val + 1))) % 16 = (c.val + (16 - k.val)) % 16
    have := k.isLt; have := c.isLt; omega
  · apply Fin.ext
    show ((c.val + (16 - 1)) % 16 + (k.val + 1)) % 16 = (c.val + k.val) % 16
    have := c.isLt; omega

theorem half_step (j : Xfer) : half (dst j) = half (src j) := by rcases j with ⟨k, b⟩ | ⟨k, b⟩ <;> rfl

/-! ## Buffers and cells -/

abbrev bufA : Memref sig .tc .vmem S512x256 .f32 := Memref.whole cc0_stg0_0
abbrev bufB : Memref sig .tc .vmem S256x512 .f32 := Memref.whole cc0_stg1_0
abbrev bufO : Memref sig .tc .vmem S8192x512 .f32 := Memref.whole cc0_stg2_0
abbrev bufL : Memref sig .tc .vmem S9x2x256x256 .f32 := Memref.whole cc0_scratch0
abbrev bufR : Memref sig .tc .vmem S8x2x256x256 .f32 := Memref.whole cc0_scratch1

/-- A slot in the kernel's own scratch buffers. -/
abbrev sM (s : Slot) : Memref sig .tc .vmem S256x256 .f32 := slotM bufL bufR s
abbrev sndS (j : Xfer) : DmaSem sig := sendS cc0_scratch2 cc0_scratch4 j
abbrev rcvS (j : Xfer) : DmaSem sig := recvS cc0_scratch3 cc0_scratch5 j
abbrev barS : Sem sig := (SemArray.scalar (sig.barrier 0 rfl) : Sems sig S_).sem

/-- The semaphores of the protocol: the handshake's, and each transfer's on its sender (`false`) and on its receiver
    (`true`). -/
abbrev Key : Type := Option (Bool × Xfer)

def ksem : Key → SemLoc sig
  | none => .reg barS
  | some (false, j) => .dma (sndS j)
  | some (true, j) => .dma (rcvS j)

/-- A transfer semaphore's number among the kernel's DMA semaphores. -/
def semNum : Bool × Xfer → Nat
  | (false, .inl (k, b)) => 3 + (2 * k.val + b.val)
  | (true, .inl (k, b)) => 19 + (2 * k.val + b.val)
  | (false, .inr (k, b)) => 35 + (2 * k.val + b.val)
  | (true, .inr (k, b)) => 49 + (2 * k.val + b.val)

theorem sndS_val (j : Xfer) : (sndS j).val = semNum (false, j) := by revert j; decide +kernel
theorem rcvS_val (j : Xfer) : (rcvS j).val = semNum (true, j) := by revert j; decide +kernel

theorem semNum_inj (p q : Bool × Xfer) (h : semNum p = semNum q) : p = q := by
  revert p q; decide +kernel

theorem ksem_inj : Function.Injective ksem := by
  intro p q h
  have e (x : Bool × Xfer) (d : DmaSem sig) (hd : ksem (some x) = .dma d) : d.val = semNum x := by
    obtain ⟨w, j⟩ := x
    cases w
    · obtain rfl : sndS j = d := SemLoc.dma.inj hd
      exact sndS_val j
    · obtain rfl : rcvS j = d := SemLoc.dma.inj hd
      exact rcvS_val j
  have dma (x : Bool × Xfer) : ∃ d, ksem (some x) = .dma d := by
    obtain ⟨w, j⟩ := x
    cases w
    · exact ⟨_, rfl⟩
    · exact ⟨_, rfl⟩
  cases p with
  | none =>
    cases q with
    | none => rfl
    | some y => obtain ⟨d, hd⟩ := dma y; rw [hd] at h; cases h
  | some x =>
    obtain ⟨d, hd⟩ := dma x
    cases q with
    | none => rw [hd] at h; cases h
    | some y => exact congrArg some (semNum_inj x y ((e x d hd).symm.trans (e y d (h.symm.trans hd))))

abbrev kcell (p : Dev nD × Key) : GSem nD τ sig := ((p.1 : Thread nD τ), ksem p.2)
abbrev barCell (c : Dev nD) : GSem nD τ sig := ((c : Thread nD τ), .reg barS)
abbrev sendCell (c : Dev nD) (j : Xfer) : GSem nD τ sig := ((c : Thread nD τ), .dma (sndS j))
abbrev recvCell (c : Dev nD) (j : Xfer) : GSem nD τ sig := ((c : Thread nD τ), .dma (rcvS j))

theorem kcell_injective : Function.Injective kcell := by
  rintro ⟨c, k⟩ ⟨c', k'⟩ h
  have h1 : c = c' := congrArg (fun g : GSem nD τ sig => g.1.1) h
  have h2 : ksem k = ksem k' := congrArg Prod.snd h
  rw [h1, ksem_inj h2]

open Classical in
/-- Which of the protocol's semaphores this is, if any. -/
def keyOf (s : SemLoc sig) : Option Key := if h : ∃ k, ksem k = s then some h.choose else none

theorem keyOf_ksem (k : Key) : keyOf (ksem k) = some k := by
  have h : ∃ k', ksem k' = ksem k := ⟨k, rfl⟩
  unfold keyOf
  rw [dif_pos h]
  exact congrArg some (ksem_inj h.choose_spec)

theorem keyOf_bar : keyOf (.reg barS) = some none := keyOf_ksem none
theorem keyOf_send (j : Xfer) : keyOf (.dma (sndS j)) = some (some (false, j)) := keyOf_ksem (some (false, j))
theorem keyOf_recv (j : Xfer) : keyOf (.dma (rcvS j)) = some (some (true, j)) := keyOf_ksem (some (true, j))

/-- What one transfer credits its semaphores. -/
abbrev N : ℕ := (sM (.inl (0, 0))).view.dmaCredit
theorem N_pos : 0 < N := View.dmaCredit_pos _ (by decide)
theorem credit_eq (s : Slot) : (sM s).view.dmaCredit = N := by
  rcases s with ⟨h, b⟩ | ⟨h, b⟩ <;> rfl

/-! ## What the slots hold -/

section Values

variable (A : Dev nD → Vec F S512x256 .f32)

/-- Half `b` of device `d`'s block of rows. -/
def chunk (d : Dev nD) (b : Fin 2) : Vec F S256x256 .f32 :=
  shapeCast S256x256 (bufA.view.readAt (Elt F) (rectA b).toLoadRect (A d)) shapeCasts_S256x256_S256x256

/-- The half block slot `s` of device `c` holds once filled. -/
def val (c : Dev nD) (s : Slot) : Vec F S256x256 .f32 := chunk A (origin c s) (half s)

omit [FloatOps F] in
theorem val_step (c : Dev nD) (j : Xfer) : val A (nbr c j) (dst j) = val A c (src j) := by
  unfold val; rw [origin_step, half_step]

/-- Share `q` of slot `s` of device `c`, the slot holding its half block. -/
def holds (c : Dev nD) (s : Slot) (q : PosShare TreeShare) : sProp 𝕄 :=
  iprop(∃ f : Buf (Elt F) ((sM s).view.loc (c : Thread nD τ)), ⌜(sM s).view.read (Elt F) f = val A c s⌝
    ∗ ((sM s).view.loc (c : Thread nD τ) ↦[(sM s).view.set]{q} f))

/-- Slot `s` of device `c` whole, at any contents. -/
def free (c : Dev nD) (s : Slot) : sProp 𝕄 :=
  iprop(∃ f : Buf (Elt F) ((sM s).view.loc (c : Thread nD τ)), ((sM s).view.loc (c : Thread nD τ) ↦[(sM s).view.set]{fullShare} f))

omit [FloatOps F] in
instance holds_storable (c : Dev nD) (s : Slot) (q) : BI.Storable (upEmb : UEmb _ 𝕄) (holds A c s q) := by unfold holds; infer_instance
omit [FloatOps F] in
instance free_storable (c : Dev nD) (s : Slot) : BI.Storable (upEmb : UEmb _ 𝕄) (free (F := F) c s) := by unfold free; infer_instance

/-- The half share a transfer borrows of its source, and the half the device keeps to read from. -/
abbrev lent : PosShare TreeShare := PosShare.right fullShare
abbrev kept : PosShare TreeShare := PosShare.left fullShare

omit [FloatOps F] in
/-- A filled slot splits into the two half shares. -/
theorem holds_split (c : Dev nD) (s : Slot) : holds A c s fullShare ⊢ iprop(holds A c s kept ∗ holds A c s lent) := by
  unfold holds
  iintro ⟨%f, %hf, H⟩
  ihave H := (pointsTo_share (PosShare.mem_left_op_right fullShare)).1 $$ H
  icases H with ⟨H1, H2⟩
  isplitl [H1]
  · iexists f; isplitr; · (ipureintro; exact hf)
    iexact H1
  · iexists f; isplitr; · (ipureintro; exact hf)
    iexact H2

omit [FloatOps F] in
/-- The two half shares of a slot make the slot whole again. -/
theorem holds_join (c : Dev nD) (s : Slot) : iprop(holds A c s kept ∗ holds A c s lent) ⊢ free (F := F) c s := by
  unfold holds free
  iintro ⟨⟨%f, %hf, H1⟩, ⟨%g, %hg, H2⟩⟩
  ihave %hag := pointsTo_agree $$ [H1 H2]
  · isplitl [H1] <;> iassumption
  ihave H2 := (Entails.of_eq (pointsTo_congr (g := f) fun i hi => ((hag i (Finset.mem_inter.mpr ⟨hi, hi⟩)).1).symm)) $$ H2
  iexists f
  iapply (pointsTo_share (PosShare.mem_left_op_right fullShare)).2
  isplitl [H1] <;> iassumption

/-! ## The schedule -/

/-- The slots a device's clockwise transfers fill on device `c`, free. -/
def freeL (c : Dev nD) : sProp 𝕄 := bigSep Finset.univ fun p : Fin 8 × Fin 2 => free (F := F) c (dst (.inl p))
/-- The slots a device's counter-clockwise transfers fill on device `c`, free. -/
def freeR (c : Dev nD) : sProp 𝕄 := bigSep Finset.univ fun p : Fin 7 × Fin 2 => free (F := F) c (dst (.inr p))

/-- What the duties of one semaphore of device `c` hand over. -/
def handed (c : Dev nD) : Option Key → Bool → sProp 𝕄
  | none, _ => iprop(emp)
  | some none, true => freeL (F := F) (nxt c)
  | some none, false => freeR (F := F) (prv c)
  | some (some (false, j)), _ => holds A c (src j) lent
  | some (some (true, j)), _ => holds A c (dst j) fullShare

omit [FloatOps F] in
instance handed_storable (c : Dev nD) (o : Option Key) (d : Bool) : BI.Storable (upEmb : UEmb _ 𝕄) (handed (F := F) A c o d) := by
  rcases o with _ | _ | ⟨w, j⟩
  · unfold handed; infer_instance
  · cases d <;> (unfold handed freeL freeR; infer_instance)
  · cases w <;> (unfold handed; infer_instance)

/-- The duties of one semaphore. -/
def dutySet : Option Key → Finset Bool
  | none => ∅
  | some none => Finset.univ
  | some (some _) => {false}

/-- The units each duty of one semaphore pays. -/
def units : Option Key → ℕ
  | some none => 1
  | _ => N

theorem units_pos (o : Option Key) : 0 < units o := by
  rcases o with _ | _ | _
  · exact N_pos
  · exact Nat.one_pos
  · exact N_pos

/-- One round: the handshake's cell has a duty of one unit from each neighbour, a transfer's cell one duty of the
    transfer's credit. -/
def ringRd : Rounds.Schedule (GSem nD τ sig) Bool 𝕄 where
  duties g r := if r = 0 ∧ g.1.2 = .tc then dutySet (keyOf g.2) else ∅
  unitless _ := False
  amount g _ _ := units (keyOf g.2)
  payload g _ d := handed A g.1.1 (keyOf g.2) d
  amount_pos g _ _ _ := units_pos _

instance ringRd_payload_storable (g : GSem nD τ sig) (r : ℕ) (d : Bool) :
    BI.Storable (upEmb : UEmb _ 𝕄) ((ringRd (F := F) A).payload g r d) := handed_storable A _ _ _

omit [FloatOps F] in
theorem duties_k (c : Dev nD) (k : Key) : (ringRd (F := F) A).duties (kcell (c, k)) 0 = dutySet (some k) := by
  have h : (ringRd (F := F) A).duties (kcell (c, k)) 0 = dutySet (keyOf (ksem k)) := by
    dsimp only [ringRd]; exact if_pos ⟨rfl, rfl⟩
  rw [h, keyOf_ksem]
omit [FloatOps F] in
theorem duties_bar (c : Dev nD) : (ringRd (F := F) A).duties (barCell c) 0 = Finset.univ := duties_k A c none
omit [FloatOps F] in
theorem duties_send (c : Dev nD) (j : Xfer) : (ringRd (F := F) A).duties (sendCell c j) 0 = {false} := duties_k A c (some (false, j))
omit [FloatOps F] in
theorem duties_recv (c : Dev nD) (j : Xfer) : (ringRd (F := F) A).duties (recvCell c j) 0 = {false} := duties_k A c (some (true, j))
omit [FloatOps F] in
theorem duties_later (g : GSem nD τ sig) : ∀ r, 1 ≤ r → (ringRd (F := F) A).duties g r = ∅ :=
  fun r hr => by dsimp only [ringRd]; rw [if_neg fun h => by omega]

omit [FloatOps F] in
theorem amount_bar (c : Dev nD) (d : Bool) : (ringRd (F := F) A).amount (barCell c) 0 d = 1 := by
  show units (keyOf (.reg barS)) = 1
  rw [keyOf_bar]; rfl
omit [FloatOps F] in
theorem amount_send (c : Dev nD) (j : Xfer) (d : Bool) : (ringRd (F := F) A).amount (sendCell c j) 0 d = N := by
  show units (keyOf (.dma (sndS j))) = N
  rw [keyOf_send]; rfl
omit [FloatOps F] in
theorem amount_recv (c : Dev nD) (j : Xfer) (d : Bool) : (ringRd (F := F) A).amount (recvCell c j) 0 d = N := by
  show units (keyOf (.dma (rcvS j))) = N
  rw [keyOf_recv]; rfl

omit [FloatOps F] in
theorem expect_bar (c : Dev nD) : (ringRd (F := F) A).expect (barCell c) 0 = 2 := by
  unfold Schedule.expect Schedule.amountOf
  rw [duties_bar, Finset.sum_congr rfl fun d _ => amount_bar A c d, Finset.sum_const, Finset.card_univ, Fintype.card_bool, smul_eq_mul]
omit [FloatOps F] in
theorem expect_send (c : Dev nD) (j : Xfer) : (ringRd (F := F) A).expect (sendCell c j) 0 = N := by
  unfold Schedule.expect Schedule.amountOf; rw [duties_send, Finset.sum_singleton, amount_send]
omit [FloatOps F] in
theorem expect_recv (c : Dev nD) (j : Xfer) : (ringRd (F := F) A).expect (recvCell c j) 0 = N := by
  unfold Schedule.expect Schedule.amountOf; rw [duties_recv, Finset.sum_singleton, amount_recv]

omit [FloatOps F] in
theorem payload_bar_true (c : Dev nD) : (ringRd (F := F) A).payload (barCell c) 0 true = freeL (F := F) (nxt c) := by
  show handed A c (keyOf (.reg barS)) true = _
  rw [keyOf_bar]; rfl
omit [FloatOps F] in
theorem payload_bar_false (c : Dev nD) : (ringRd (F := F) A).payload (barCell c) 0 false = freeR (F := F) (prv c) := by
  show handed A c (keyOf (.reg barS)) false = _
  rw [keyOf_bar]; rfl
omit [FloatOps F] in
theorem payload_send (c : Dev nD) (j : Xfer) (d : Bool) : (ringRd (F := F) A).payload (sendCell c j) 0 d = holds A c (src j) lent := by
  show handed A c (keyOf (.dma (sndS j))) d = _
  rw [keyOf_send]; cases d <;> rfl
omit [FloatOps F] in
theorem payload_recv (c : Dev nD) (j : Xfer) (d : Bool) : (ringRd (F := F) A).payload (recvCell c j) 0 d = holds A c (dst j) fullShare := by
  show handed A c (keyOf (.dma (rcvS j))) d = _
  rw [keyOf_recv]; cases d <;> rfl

omit [FloatOps F] in
/-- What a device's handshake brings: every slot its transfers write, on the neighbour it is, free. -/
theorem rest_bar (c : Dev nD) :
    bigSep ((ringRd (F := F) A).duties (barCell c) 0 \ ∅) (fun d => (ringRd (F := F) A).payload (barCell c) 0 d)
      = bigSep Finset.univ (fun j : Xfer => free (F := F) (nbr c j) (dst j)) := by
  rw [Finset.sdiff_empty, duties_bar, bigSep_univ_eq_bigSepL [true, false] (by decide) (by decide), bigSepL_cons_cons, bigSepL_singleton,
    payload_bar_false, payload_bar_true, bigSep_univ_sum]
  rfl
omit [FloatOps F] in
theorem rest_send (c : Dev nD) (j : Xfer) :
    bigSep ((ringRd (F := F) A).duties (sendCell c j) 0 \ ∅) (fun d => (ringRd (F := F) A).payload (sendCell c j) 0 d) = holds A c (src j) lent := by
  rw [Finset.sdiff_empty, duties_send, bigSep_singleton, payload_send]
omit [FloatOps F] in
theorem rest_recv (c : Dev nD) (j : Xfer) :
    bigSep ((ringRd (F := F) A).duties (recvCell c j) 0 \ ∅) (fun d => (ringRd (F := F) A).payload (recvCell c j) 0 d) = holds A c (dst j) fullShare := by
  rw [Finset.sdiff_empty, duties_recv, bigSep_singleton, payload_recv]

end Values

/-! ## What a device owes; the levels -/

/-- The hop a transfer belongs to. -/
def hop : Xfer → ℕ
  | .inl (k, _) => k.val
  | .inr (k, _) => k.val

/-- What device `c` owes its neighbours for the transfers of `U`: each receive cell the transfer's credit. -/
def dueX (c : Dev nD) (U : Finset Xfer) : CellTallies nD τ sig Unit := ∑ j ∈ U, tallyAt (recvCell (nbr c j) j) () N

theorem dueX_erase (c : Dev nD) {U : Finset Xfer} {j : Xfer} (h : j ∈ U) :
    dueX c U = dueX c (U.erase j) + tallyAt (recvCell (nbr c j) j) () N := (Finset.sum_erase_add U _ h).symm

theorem dueX_empty (c : Dev nD) : dueX c ∅ = 0 := rfl

theorem dueX_pos (c : Dev nD) (U : Finset Xfer) {g : GSem nD τ sig} {u : Unit} (h : 0 < dueX c U g u) :
    ∃ j ∈ U, g = recvCell (nbr c j) j := by
  induction U using Finset.induction_on with
  | empty => exact absurd h (Nat.lt_irrefl 0)
  | insert j U hj ih =>
    unfold dueX at h ih
    rw [Finset.sum_insert hj, Pi.add_apply, Finsupp.add_apply, tallyAt_apply] at h
    by_cases hg : g = recvCell (nbr c j) j ∧ u = ()
    · exact ⟨j, Finset.mem_insert_self _ _, hg.1⟩
    · rw [if_neg hg, Nat.zero_add] at h
      obtain ⟨j', hj', e⟩ := ih h
      exact ⟨j', Finset.mem_insert_of_mem hj', e⟩

/-- After the first signal a device owes its right neighbour's handshake and its transfers; -/
def O₁ (c : Dev nD) : CellTallies nD τ sig Unit := dueX c Finset.univ + tallyAt (barCell (nxt c)) () 1
/-- at launch its left neighbour's handshake besides. -/
def O₀ (c : Dev nD) : CellTallies nD τ sig Unit := O₁ c + tallyAt (barCell (prv c)) () 1

theorem O₀_pos {c : Dev nD} {g : GSem nD τ sig} {u : Unit} (h : 0 < O₀ c g u) :
    (∃ j, g = recvCell (nbr c j) j) ∨ g = barCell (nxt c) ∨ g = barCell (prv c) := by
  unfold O₀ O₁ at h
  rw [Pi.add_apply, Finsupp.add_apply, Pi.add_apply, Finsupp.add_apply, tallyAt_apply, tallyAt_apply] at h
  by_cases h1 : g = barCell (nxt c) ∧ u = ()
  · exact .inr (.inl h1.1)
  by_cases h2 : g = barCell (prv c) ∧ u = ()
  · exact .inr (.inr h2.1)
  rw [if_neg h1, if_neg h2] at h
  obtain ⟨j, -, e⟩ := dueX_pos c _ (g := g) (u := u) (by simpa using h)
  exact .inl ⟨j, e⟩

def L (g : GSem nD τ sig) : Finset Unit := if g.1.2 = .tc then {()} else ∅

/-- The handshake's cells at level 1, the receive cells of hop `k` at `k + 2`, the rest at 0. -/
def lvKey : Option Key → ℕ
  | some none => 1
  | some (some (true, j)) => hop j + 2
  | _ => 0
def lv (g : GSem nD τ sig) (_ : Unit) : ℕ := lvKey (keyOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [keyOf_bar]; rfl
theorem lv_recv (c : Dev nD) (j : Xfer) : lv (recvCell c j) () = hop j + 2 := by unfold lv; rw [keyOf_recv]; rfl

omit [FloatOps F] in
/-- A device may wait for the neighbour's transfer `j` while every transfer it still has to start is of a later hop. -/
theorem mayWait_recv (c : Dev nD) (j : Xfer) (U : Finset Xfer) (h : ∀ j' ∈ U, hop j < hop j') :
    (levAts L lv : sProp 𝕄) ⊢ MayWait (c : Thread nD τ) (.dma (rcvS j)) () (dueX c U) :=
  MayOwe.of_cut (L := L) (lev := lv) (hop j + 2) (fun p hp => by rw [Finset.mem_singleton.mp hp, L_tc]; exact Finset.mem_singleton_self _)
    (fun g u hg => by obtain ⟨j', -, rfl⟩ := dueX_pos c U hg; exact Finset.mem_singleton_self _)
    (fun p hp => by rw [Finset.mem_singleton.mp hp]; exact (lv_recv c j).le)
    (fun g u hg => by
      obtain ⟨j', hj', rfl⟩ := dueX_pos c U hg
      have := h j' hj'
      rw [show lv (recvCell (nbr c j') j') u = hop j' + 2 from lv_recv _ _]; omega)

omit [FloatOps F] in
/-- A device may wait for the handshake while it owes transfers only. -/
theorem mayWait_bar (c : Dev nD) : (levAts L lv : sProp 𝕄) ⊢ MayWait (c : Thread nD τ) (.reg barS) () (dueX c Finset.univ) :=
  MayOwe.of_cut (L := L) (lev := lv) 1 (fun p hp => by rw [Finset.mem_singleton.mp hp, L_tc]; exact Finset.mem_singleton_self _)
    (fun g u hg => by obtain ⟨j', -, rfl⟩ := dueX_pos c _ hg; exact Finset.mem_singleton_self _)
    (fun p hp => by rw [Finset.mem_singleton.mp hp]; exact (lv_bar c).le)
    (fun g u hg => by
      obtain ⟨j', -, rfl⟩ := dueX_pos c _ hg
      rw [show lv (recvCell (nbr c j') j') u = hop j' + 2 from lv_recv _ _]; omega)

omit [FloatOps F] in
/-- A staging wait, on a semaphore outside the protocol, is allowed at launch and at the end. -/
theorem mayWait_stage (c : Dev nD) (q : DmaSem sig) (hq : keyOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | rfl | rfl <;> exact Finset.mem_singleton_self _)
      (fun p hp => by rw [Finset.mem_singleton.mp hp]; show lvKey (keyOf (.dma q)) ≤ 0; rw [hq]; exact Nat.le_refl 0)
      (fun g u hg => by
        rcases O₀_pos hg with ⟨j, rfl⟩ | rfl | rfl
        · rw [show lv (recvCell (nbr c j) j) u = hop j + 2 from lv_recv _ _]; omega
        · rw [show lv (barCell (nxt c)) u = 1 from lv_bar _]; omega
        · rw [show lv (barCell (prv c)) u = 1 from lv_bar _]; omega)
  · rw [MayWait_zero]; iintro -; iempintro

end Cert.KernelIdeal.Ring

end
-- ==== Proof.Access.lean ====
/-
Loads and stores of the body: a slot through its whole buffer, and the result's rows.

A slot of a gather buffer is read by the transfers as a 256 × 256 region and by the loads and stores as a
1 × 1 × 256 × 256 box of the whole buffer; the two readings are one value up to a shape cast (`slot_load`,
`slot_store`). The result is filled one 256-row block at a time; which blocks already hold their product is
`good`.
-/
module

public import proofs.«01_k».proof.Proof.Protocol
public import Idealize.ShloMosaic.Lib.ViewIndex

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Running a piece of device `c`'s body to a postcondition. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Share `q` of slot `s` of device `c` at contents `f`. -/
abbrev slotPts (c : Dev nD) (s : Slot) (q : PosShare TreeShare) (f : Buf (Elt F) ((sM s).view.loc (c : Thread nD τ))) : sProp 𝕄 :=
  ((sM s).view.loc (c : Thread nD τ) ↦[(sM s).view.set]{q} f)

/-! ## A slot through its whole buffer -/

theorem slotL_set (h : Fin 9) (b : Fin 2) : (sM (.inl (h, b))).view.set = (bufL.access (rectL h b)).set :=
  View.set_reshape _ _
theorem slotR_set (h : Fin 8) (b : Fin 2) : (sM (.inr (h, b))).view.set = (bufR.access (rectR h b)).set :=
  View.set_reshape _ _

theorem slotL_pts (c : Dev nD) (h : Fin 9) (b : Fin 2) (q : PosShare TreeShare) (f : Buf (Elt F) ((bufL.access (rectL h b)).loc (c : Thread nD τ))) :
    (slotPts c (.inl (h, b)) q f : sProp 𝕄)
      = ((bufL.access (rectL h b)).loc (c : Thread nD τ) ↦[(bufL.access (rectL h b)).set]{q} f) :=
  congrArg (fun S : Finset (Idx ((bufL.access (rectL h b)).loc (c : Thread nD τ))) => ((bufL.access (rectL h b)).loc (c : Thread nD τ) ↦[S]{q} f : sProp 𝕄))
    (slotL_set h b)
theorem slotR_pts (c : Dev nD) (h : Fin 8) (b : Fin 2) (q : PosShare TreeShare) (f : Buf (Elt F) ((bufR.access (rectR h b)).loc (c : Thread nD τ))) :
    (slotPts c (.inr (h, b)) q f : sProp 𝕄)
      = ((bufR.access (rectR h b)).loc (c : Thread nD τ) ↦[(bufR.access (rectR h b)).set]{q} f) :=
  congrArg (fun S : Finset (Idx ((bufR.access (rectR h b)).loc (c : Thread nD τ))) => ((bufR.access (rectR h b)).loc (c : Thread nD τ) ↦[S]{q} f : sProp 𝕄))
    (slotR_set h b)

/-- Loading a slot through its buffer gives, cast, what the slot reads. -/
theorem slot_load (c : Dev nD) (s : Slot) (q : PosShare TreeShare) (f : Buf (Elt F) ((sM s).view.loc (c : Thread nD τ)))
    (Q : Vec F S1x1x256x256 .f32 → sProp 𝕄) :
    iprop(slotPts c s q f ∗ (∀ v : Vec F S1x1x256x256 .f32, ⌜shapeCast S256x256 v shapeCasts_S1x1x256x256_S256x256 = (sM s).view.read (Elt F) f⌝
        -∗ slotPts c s q f -∗ Q v))
      ⊢ runs c (loadSlot bufL bufR s) Q := by
  rcases s with ⟨h, b⟩ | ⟨h, b⟩
  · unfold loadSlot Prog.lift
    iintro ⟨H, HQ⟩
    ihave H := (Entails.of_eq (slotL_pts c h b q f)) $$ H
    iapply (wp_load_rect 𝒱₀ (c : Thread nD τ) none Set.univ (m := bufL) (r := rectL h b) (q := q) (f := f) (Finset.Subset.refl _)) $$ H; iintro H
    ihave H := (Entails.of_eq (slotL_pts c h b q f).symm) $$ H
    rw [wp_ret]; imodintro
    iapply HQ $$ [] H
    ipureintro; rfl
  · unfold loadSlot Prog.lift
    iintro ⟨H, HQ⟩
    ihave H := (Entails.of_eq (slotR_pts c h b q f)) $$ H
    iapply (wp_load_rect 𝒱₀ (c : Thread nD τ) none Set.univ (m := bufR) (r := rectR h b) (q := q) (f := f) (Finset.Subset.refl _)) $$ H; iintro H
    ihave H := (Entails.of_eq (slotR_pts c h b q f).symm) $$ H
    rw [wp_ret]; imodintro
    iapply HQ $$ [] H
    ipureintro; rfl

/-- Storing into a slot through its buffer leaves the slot reading the stored vector, cast. -/
theorem slot_store (c : Dev nD) (s : Slot) (f : Buf (Elt F) ((sM s).view.loc (c : Thread nD τ)))
    (v : FVec F S1x1x256x256 .f32) (Q : PUnit → sProp 𝕄) :
    iprop(slotPts c s fullShare f
        ∗ ((∃ g, ⌜(sM s).view.read (Elt F) g = shapeCast S256x256 v shapeCasts_S1x1x256x256_S256x256⌝ ∗ slotPts c s fullShare g) -∗ Q ⟨⟩))
      ⊢ runs c (storeSlot bufL bufR v s) Q := by
  rcases s with ⟨h, b⟩ | ⟨h, b⟩
  · unfold storeSlot Prog.lift
    iintro ⟨H, HQ⟩
    ihave H := (Entails.of_eq (slotL_pts c h b fullShare f)) $$ H
    iapply (wp_store 𝒱₀ (c : Thread nD τ) none Set.univ (m := bufL) (r := rectL h b) (w := v) (f := f) (Mk := Finset.univ) (View.setOn_subset_set _ _)) $$ H; iintro H
    ihave H := (Entails.of_eq (slotL_pts c h b fullShare _).symm) $$ H
    rw [wp_ret]; imodintro
    iapply HQ
    iexists _
    isplitr
    · ipureintro
      exact congrArg (fun w => shapeCast S256x256 w shapeCasts_S1x1x256x256_S256x256) (View.read_write_univ (v := bufL.access (rectL h b)) f v)
    · iexact H
  · unfold storeSlot Prog.lift
    iintro ⟨H, HQ⟩
    ihave H := (Entails.of_eq (slotR_pts c h b fullShare f)) $$ H
    iapply (wp_store 𝒱₀ (c : Thread nD τ) none Set.univ (m := bufR) (r := rectR h b) (w := v) (f := f) (Mk := Finset.univ) (View.setOn_subset_set _ _)) $$ H; iintro H
    ihave H := (Entails.of_eq (slotR_pts c h b fullShare _).symm) $$ H
    rw [wp_ret]; imodintro
    iapply HQ
    iexists _
    isplitr
    · ipureintro
      exact congrArg (fun w => shapeCast S256x256 w shapeCasts_S1x1x256x256_S256x256) (View.read_write_univ (v := bufR.access (rectR h b)) f v)
    · iexact H

/-! ## The result's blocks -/

/-- A block of the result: half `b` of the device's own block, or the half block transfer `j` brings. -/
abbrev Task : Type := Fin 2 ⊕ Xfer

/-- The slot a block's left factor is in. -/
def taskSlot : Task → Slot
  | .inl b => .inl (0, b)
  | .inr j => dst j

/-- Where the kernel puts a block. -/
def taskOff (c : Dev nD) : Task → Fin 2 → Nat
  | .inl b => offO c b
  | .inr j => offX c j

theorem taskOff_inb (c : Dev nD) (t : Task) : ∀ a, taskOff c t a + S256x512.size a ≤ S8192x512.size a := by
  rcases t with b | j
  · exact offO_inb c b
  · exact offX_inb c j

abbrev taskRect (c : Dev nD) (t : Task) : Rect S8192x512 := Rect.unit (s := S8192x512) (taskOff c t) S256x512.size (taskOff_inb c t)

/-- A block's rows are those of the half block it is the product of. -/
theorem taskOff_rows (c : Dev nD) (t : Task) : taskOff c t 0 = 512 * (origin c (taskSlot t)).val + 256 * (half (taskSlot t)).val := by
  revert c t; decide +kernel
theorem taskOff_cols (c : Dev nD) (t : Task) : taskOff c t 1 = 0 := by
  revert c t; decide +kernel

/-- No two blocks of one device are the product of the same half block. -/
theorem task_inj (c : Dev nD) (t t' : Task) (h : taskOff c t 0 = taskOff c t' 0) : t = t' := by
  rw [taskOff_rows, taskOff_rows] at h
  have e : (origin c (taskSlot t)).val = (origin c (taskSlot t')).val ∧ half (taskSlot t) = half (taskSlot t') := by
    have h1 := (half (taskSlot t)).isLt; have h2 := (half (taskSlot t')).isLt
    exact ⟨by omega, Fin.ext (by omega)⟩
  revert c t t'; decide +kernel

/-- Two blocks of one device share no row. -/
theorem task_disjoint (c : Dev nD) (t t' : Task) (h : t ≠ t') : Disjoint (taskRect c t).set (taskRect c t').set := by
  refine Rect.unit_disjoint (s := S8192x512) 0 ?_
  have hne : taskOff c t 0 ≠ taskOff c t' 0 := fun e => h (task_inj c t t' e)
  rw [taskOff_rows, taskOff_rows] at hne ⊢
  show _ + 256 ≤ _ ∨ _ + 256 ≤ _
  omega

/-- Every half block of every device is the left factor of a block. -/
theorem task_surj (c : Dev nD) (d : Dev nD) (b : Fin 2) : ∃ t : Task, origin c (taskSlot t) = d ∧ half (taskSlot t) = b := by
  revert c d b; decide +kernel

section Values

variable (A : Dev nD → Vec F S512x256 .f32) (B : Dev nD → Vec F S256x512 .f32)

/-- The right factor as the kernel loads it. -/
def factor (c : Dev nD) : Vec F S256x512 .f32 := bufB.view.readAt (Elt F) rectB.toLoadRect (B c)

/-- The product a block receives. -/
def blockOf (c : Dev nD) (t : Task) : FVec F S256x512 .f32 := prod (val A c (taskSlot t)) (factor B c)

/-- The blocks of `D` hold their products. -/
def good (c : Dev nD) (D : Finset Task) (g : Vec F S8192x512 .f32) : Prop :=
  ∀ t ∈ D, (bufO.access (taskRect c t)).read (Elt F) g = blockOf A B c t

/-- Storing a block's product makes it good and leaves the others good. -/
theorem good_write (c : Dev nD) (D : Finset Task) (g : Vec F S8192x512 .f32) (t : Task) (h : good A B c D g) :
    good A B c (insert t D) ((bufO.access (taskRect c t)).write (Elt F) g (blockOf A B c t) Finset.univ) := by
  intro t' ht'
  by_cases e : t' = t
  · subst e; exact View.read_write_univ _ _
  · rw [← h t' ((Finset.mem_insert.mp ht').resolve_left e)]
    refine View.read_slice_write_slice_of_disjoint (v := bufO.view) (taskRect c t') (taskRect c t) g _ Finset.univ ?_
    rw [View.setOn_univ]
    exact View.disjoint_slice (v := bufO.view) (task_disjoint c t' t e)

end Values

end Cert.KernelIdeal.Ring

end
-- ==== Proof.Walk.lean ====
/-
The body's list of steps, checked one step at a time.

`St` says what a device has at a point of the list: which of its slots are still empty, which transfers are not
yet started, on the way, or back, which of the neighbours' transfers it still awaits, which slots it can read and
lend, and which blocks of the result are made. `advance` is the change of each step, defined only when the step is
allowed. Each step's run is proved once, for every device and every state that allows it (`step_run`); the whole
list follows by induction (`walk_run`), and that the body's list is allowed from start to end is decided
(`steps_advance`).
-/
module

public import proofs.«01_k».proof.Proof.Access

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The state -/

structure St where
  /-- slots 0 not yet filled with the own block -/
  empty : Finset (Bool × Fin 2)
  /-- transfers not yet started -/
  unsent : Finset Xfer
  /-- transfers started, their source not yet back -/
  flying : Finset Xfer
  /-- transfers whose source is back -/
  sent : Finset Xfer
  /-- the neighbours' transfers not yet arrived -/
  awaited : Finset Xfer
  /-- the neighbours' transfers arrived -/
  got : Finset Xfer
  /-- filled slots, of which the device has the share it reads from -/
  filled : Finset Slot
  /-- filled slots, of which the device has the share it lends -/
  lendable : Finset Slot
  /-- blocks of the result holding their product -/
  made : Finset Task

/-- Whether a state allows a step. -/
def allowed (s : St) : Step → Bool
  | .keep w b => decide ((w, b) ∈ s.empty ∧ home w b ∉ s.filled ∧ home w b ∉ s.lendable)
  | .send j => decide (j ∈ s.unsent ∧ src j ∈ s.lendable ∧ j ∉ s.flying)
  | .recv j => decide (j ∈ s.awaited ∧ j ∉ s.got ∧ dst j ∉ s.filled ∧ dst j ∉ s.lendable ∧ ∀ j' ∈ s.unsent, hop j < hop j')
  | .own _ => true
  | .mul j => decide (dst j ∈ s.filled)
  | .done j => decide (j ∈ s.flying ∧ j ∉ s.sent ∧ src j ∉ s.lendable ∧ s.unsent = ∅)

/-- The state after a step. -/
def after (s : St) : Step → St
  | .keep w b => { s with empty := s.empty.erase (w, b), filled := insert (home w b) s.filled, lendable := insert (home w b) s.lendable }
  | .send j => { s with unsent := s.unsent.erase j, lendable := s.lendable.erase (src j), flying := insert j s.flying }
  | .recv j =>
    { s with awaited := s.awaited.erase j, got := insert j s.got, filled := insert (dst j) s.filled, lendable := insert (dst j) s.lendable }
  | .own b => { s with made := insert (.inl b) s.made }
  | .mul j => { s with made := insert (.inr j) s.made }
  | .done j => { s with flying := s.flying.erase j, sent := insert j s.sent, lendable := insert (src j) s.lendable }

/-- The state after a list of steps, each allowed when it is reached. -/
def advances (s : St) : List Step → Option St
  | [] => some s
  | a :: l => if allowed s a then advances (after s a) l else none

/-- After the handshake: nothing filled, nothing started. -/
def first : St := ⟨Finset.univ, Finset.univ, ∅, ∅, Finset.univ, ∅, ∅, ∅, ∅⟩
/-- At the end: every slot filled and back, every block made. -/
def last : St := ⟨∅, ∅, ∅, Finset.univ, ∅, Finset.univ, Finset.univ, Finset.univ, Finset.univ⟩

/-- Whether a state is the one at the end, field by field. -/
def isLast (s : St) : Bool :=
  decide (s.empty = ∅) && decide (s.unsent = ∅) && decide (s.flying = ∅) && decide (s.sent = Finset.univ) && decide (s.awaited = ∅)
    && decide (s.got = Finset.univ) && decide (s.filled = Finset.univ) && decide (s.lendable = Finset.univ) && decide (s.made = Finset.univ)

theorem eq_last (s : St) (h : isLast s = true) : s = last := by
  obtain ⟨s1, s2, s3, s4, s5, s6, s7, s8, s9⟩ := s
  simp only [isLast, Bool.and_eq_true, decide_eq_true_eq] at h
  obtain ⟨⟨⟨⟨⟨⟨⟨⟨rfl, rfl⟩, rfl⟩, rfl⟩, rfl⟩, rfl⟩, rfl⟩, rfl⟩, rfl⟩ := h
  rfl

set_option maxRecDepth 65536 in
theorem steps_isLast : (advances first steps).map isLast = some true := by decide +kernel

/-- The body's list is allowed from start to end. -/
theorem steps_advance : advances first steps = some last := by
  have h := steps_isLast
  cases e : advances first steps with
  | none => rw [e] at h; cases h
  | some s => rw [e] at h; rw [eq_last s (Option.some.inj h)]

/-! ## Taking from a family and putting into it -/

omit [FloatOps F] in
/-- A family of resources over a finite set, one member taken out. -/
theorem take_out {I : Type} [DecidableEq I] {S : Finset I} {i : I} (h : i ∈ S) (Φ : I → sProp 𝕄) :
    bigSep S Φ = iprop(Φ i ∗ bigSep (S.erase i) Φ) := bigSep_erase h
omit [FloatOps F] in
/-- A family of resources over a finite set, one member put in. -/
theorem put_in {I : Type} [DecidableEq I] {S : Finset I} {i : I} (h : i ∉ S) (Φ : I → sProp 𝕄) :
    bigSep (insert i S) Φ = iprop(Φ i ∗ bigSep S Φ) := bigSep_insert h
omit [FloatOps F] in
/-- One member of a family. -/
theorem one_of {I : Type} {S : Finset I} {i : I} (h : i ∈ S) (Φ : I → sProp 𝕄) : bigSep S Φ ⊢ Φ i := by
  classical
  exact bigSep_elim h

/-! ## What a state owns -/

section Own

variable (A : Dev nD → Vec F S512x256 .f32) (B : Dev nD → Vec F S256x512 .f32)

/-- A transfer not yet started: the two duties it pays, the slot it fills on the neighbour, its sender's cell unwaited. -/
def unsentX (c : Dev nD) (j : Xfer) : sProp 𝕄 :=
  iprop(dutyTok ER (sendCell c j) 0 false ∗ dutyTok ER (recvCell (nbr c j) j) 0 false ∗ free (F := F) (nbr c j) (dst j)
    ∗ atPos ER (sendCell c j) 0 ∅ 0)
/-- A transfer on the way: the credit of its sender's cell, unwaited. -/
def flyingX (c : Dev nD) (j : Xfer) : sProp 𝕄 := iprop(cred (tallyAt (sendCell c j) () N) ∗ atPos ER (sendCell c j) 0 ∅ 0)
/-- A neighbour's transfer not yet arrived: the credit of its receiver's cell, unwaited. -/
def awaitedX (c : Dev nD) (j : Xfer) : sProp 𝕄 := iprop(cred (tallyAt (recvCell c j) () N) ∗ atPos ER (recvCell c j) 0 ∅ 0)

/-- The device's block of the left factor, and the right factor. -/
def ptsA (c : Dev nD) : sProp 𝕄 := ((c : Thread nD τ).loc cc0_stg0_0) ↦{fullShare} (A c : Buf (Elt F) ((c : Thread nD τ).loc cc0_stg0_0))
def ptsB (c : Dev nD) : sProp 𝕄 := ((c : Thread nD τ).loc cc0_stg1_0) ↦{fullShare} (B c : Buf (Elt F) ((c : Thread nD τ).loc cc0_stg1_0))
/-- The result, the blocks of `D` holding their products. -/
def ptsO (c : Dev nD) (D : Finset Task) : sProp 𝕄 :=
  iprop(∃ g : Buf (Elt F) ((c : Thread nD τ).loc cc0_stg2_0), ⌜good A B c D g⌝ ∗ (((c : Thread nD τ).loc cc0_stg2_0) ↦{fullShare} g))

/-- What device `c` owns in state `s`. -/
def own (c : Dev nD) (s : St) : sProp 𝕄 :=
  iprop(bigSep s.empty (fun p => free (F := F) c (home p.1 p.2))
    ∗ bigSep s.unsent (unsentX (F := F) c)
    ∗ bigSep s.flying (flyingX (F := F) c)
    ∗ bigSep s.sent (fun j => semVal (sendCell c j) 0)
    ∗ bigSep s.awaited (awaitedX (F := F) c)
    ∗ bigSep s.got (fun j => semVal (recvCell c j) 0)
    ∗ bigSep s.filled (fun x => holds A c x kept)
    ∗ bigSep s.lendable (fun x => holds A c x lent)
    ∗ (∃ W, owes (c : Thread nD τ) (dueX c s.unsent) W)
    ∗ ptsA A c ∗ ptsB B c ∗ ptsO A B c s.made)

variable (κ : Dev nD × Key → ℕ)

/-- What every device knows: the cells' invariants, that every cell has reached its round, and the levels. -/
def records : sProp 𝕄 :=
  iprop(bigSep Finset.univ (fun p : Dev nD × Key => cellInv ER (ringRd A) (κ p) (kcell p))
    ∗ bigSep Finset.univ (fun p : Dev nD × Key => reached ER (kcell p) 0) ∗ levAts L lv)

omit [FloatOps F] in
instance records_persistent : BI.Persistent (records A κ) := by unfold records; infer_instance

omit [FloatOps F] in
theorem records_inv (p : Dev nD × Key) : records A κ ⊢ cellInv ER (ringRd A) (κ p) (kcell p) := by
  unfold records
  iintro ⟨H, -, -⟩
  iapply (one_of (Finset.mem_univ p) _) $$ H
omit [FloatOps F] in
theorem records_reached (p : Dev nD × Key) : records A κ ⊢ reached ER (kcell p) 0 := by
  unfold records
  iintro ⟨-, H, -⟩
  iapply (one_of (Finset.mem_univ p) (fun p : Dev nD × Key => (reached ER (kcell p) 0 : sProp 𝕄))) $$ H
omit [FloatOps F] in
theorem records_lev : records A κ ⊢ (levAts L lv : sProp 𝕄) := by
  unfold records; iintro ⟨-, -, H⟩; iexact H

set_option maxRecDepth 20000 in
/-- Device `c` may wait for a neighbour's transfer while it owes only transfers of later hops. -/
theorem records_recv (c : Dev nD) (j : Xfer) (U : Finset Xfer) (h : ∀ j' ∈ U, hop j < hop j') :
    records A κ ⊢ MayWait (c : Thread nD τ) (.dma (rcvS j)) () (dueX c U) :=
  (records_lev A κ).trans (mayWait_recv c j U h)

/-! ## One step -/

/-- A step of the body on device `c`. -/
abbrev stepProg (c : Dev nD) (a : Step) : Prog (TpuEff nD τ sig (Elt F) Λ₀ .tc) PUnit :=
  a.run bufA bufB bufO bufL bufR cc0_scratch2 cc0_scratch3 cc0_scratch4 cc0_scratch5 c

/-- The own half block is the value of both slots 0. -/
theorem val_home (c : Dev nD) (w : Bool) (b : Fin 2) : val A c (home w b) = chunk A c b := by
  have h0 : left 0 c = c := by revert c; decide
  have h1 : right 0 c = c := by revert c; decide
  cases w
  · show chunk A (right 0 c) b = _
    rw [h1]
  · show chunk A (left 0 c) b = _
    rw [h0]

/-- Putting the own half block into a slot 0. -/
theorem keep_run (c : Dev nD) (w : Bool) (b : Fin 2) (s : St) (h : allowed s (.keep w b) = true) :
    iprop(records A κ ∗ own A B c s) ⊢ runs c (stepProg c (.keep w b)) fun _ => own A B c (after s (.keep w b)) := by
  obtain ⟨h1, h2, h3⟩ := of_decide_eq_true h
  unfold own after
  dsimp only
  rw [take_out h1, put_in h2, put_in h3]
  iintro ⟨#Hrec, ⟨Hf, HE⟩, HU, HF, HS, HW, HG, HP, HL, HO, HA, HB, Hout⟩
  unfold runs stepProg Step.run
  rw [wp_bind]
  unfold Prog.lift ptsA
  iapply (wp_load 𝒱₀ (c : Thread nD τ) none Set.univ (m := bufA) (r := (rectA b).toLoadRect) (f := A c) (Finset.subset_univ _)) $$ HA; iintro HA
  rw [wp_ret]; imodintro
  rw [wp_bind]
  unfold free
  icases Hf with ⟨%f, Hf⟩
  iapply (slot_load c (home w b) fullShare f)
  isplitl [Hf]; · iexact Hf
  iintro %v - Hf
  iapply (slot_store c (home w b) f)
  isplitl [Hf]; · iexact Hf
  iintro ⟨%g, %hg, Hf⟩
  ihave Hh := (holds_split A c (home w b)) $$ [Hf]
  · unfold holds
    iexists g
    isplitr
    · ipureintro
      rw [hg, shapeCast_shapeCast, val_home]
      rfl
    iexact Hf
  icases Hh with ⟨Hk, Hl⟩
  isplitl [HE]; · iexact HE
  isplitl [HU]; · iexact HU
  isplitl [HF]; · iexact HF
  isplitl [HS]; · iexact HS
  isplitl [HW]; · iexact HW
  isplitl [HG]; · iexact HG
  isplitl [Hk HP]
  · isplitl [Hk] <;> iassumption
  isplitl [Hl HL]
  · isplitl [Hl] <;> iassumption
  isplitl [HO]; · iexact HO
  isplitl [HA]; · iexact HA
  isplitl [HB]; · iexact HB
  iexact Hout

/-- Starting a transfer, addressed to `n`, the neighbour. -/
theorem send_slot (c n : Dev nD) (j : Xfer) (hn : n = nbr c j) (U : Finset Xfer) (hj : j ∈ U) (W : Waits sig Unit)
    (Q : PUnit → sProp 𝕄) :
    iprop(records A κ ∗ unsentX c j ∗ holds A c (src j) lent ∗ owes (c : Thread nD τ) (dueX c U) W
        ∗ ((flyingX (F := F) c j ∗ owes (c : Thread nD τ) (dueX c (U.erase j)) W) -∗ Q ⟨⟩))
      ⊢ runs c (Prog.lift (.enqueueDma (sM (src j)) (.remote (Dev.tc n) (sM (dst j)) (.dma (sndS j))) (.dma (rcvS j))
          (slot_exact bufL bufR _) (slot_exact bufL bufR _) ⟨⟨rfl, Or.inl rfl⟩, trivial⟩)) Q := by
  subst hn
  unfold runs Prog.lift unsentX flyingX holds free
  iintro ⟨#Hrec, ⟨Ht1, Ht2, ⟨%fd, Hd⟩, Hat⟩, ⟨%fs, %hfs, Hs⟩, HO, HQ⟩
  iapply (Rounds.wp_send_pointsTo 𝒱₀ ER (ringRd A) (c : Thread nD τ) none (c' := (nbr c j : Thread nD τ)) (src := sM (src j)) (dst := sM (dst j))
    (sS := .dma (sndS j)) (sem := .dma (rcvS j)) (κ₁ := κ (c, some (false, j))) (κ₂ := κ (nbr c j, some (true, j))) (r₁ := 0) (r₂ := 0) (d₁ := false) (d₂ := false) (fs := fs) (fd := fd) (q := lent)
    (by rw [duties_send]; exact Finset.mem_singleton_self _) (by rw [duties_recv]; exact Finset.mem_singleton_self _)
    () () N (credit_eq (dst j)) (amount_send A c j false) (amount_recv A (nbr c j) j false) (dueX c (U.erase j)) (dueX_erase c hj) (W := W)
    (by
      rw [payload_send]; unfold holds
      iintro H; iexists fs; isplitr; · (ipureintro; exact hfs)
      iexact H)
    (by
      rw [payload_recv]; unfold holds
      iintro H
      iexists ((sM (dst j)).view.write (Elt F) fd ((sM (src j)).view.read (Elt F) fs) Finset.univ)
      isplitr
      · ipureintro; exact (View.read_write_univ _ _).trans (hfs.trans (val_step A c j).symm)
      iexact H)) $$ [Hs Hd HO Ht1 Ht2]
  · isplitr; · iapply (records_inv A κ (c, some (false, j))); iexact Hrec
    isplitr; · iapply (records_inv A κ (nbr c j, some (true, j))); iexact Hrec
    isplitl [Hs]; · iexact Hs
    isplitl [Hd]; · iexact Hd
    isplitl [HO]; · iexact HO
    isplitl [Ht1]; · iexact Ht1
    isplitr; · iapply (records_reached A κ (c, some (false, j))); iexact Hrec
    isplitl [Ht2]; · iexact Ht2
    iapply (records_reached A κ (nbr c j, some (true, j))); iexact Hrec
  iintro ⟨Hc, HO⟩
  rw [wp_ret]; imodintro
  iapply HQ
  isplitl [Hc Hat]
  · isplitl [Hc] <;> iassumption
  iexact HO

/-- Starting a transfer. -/
theorem send_run (c : Dev nD) (j : Xfer) (s : St) (h : allowed s (.send j) = true) :
    iprop(records A κ ∗ own A B c s) ⊢ runs c (stepProg c (.send j)) fun _ => own A B c (after s (.send j)) := by
  obtain ⟨h1, h2, h3⟩ := of_decide_eq_true h
  unfold own after
  dsimp only
  rw [take_out h1, take_out h2, put_in h3]
  iintro ⟨#Hrec, HE, ⟨Hu, HU⟩, HF, HS, HW, HG, HP, ⟨Hl, HL⟩, ⟨%W, HO⟩, HA, HB, Hout⟩
  unfold stepProg Step.run
  iapply (send_slot A κ c (peer c j) j (peer_eq c j) s.unsent h1 W)
  isplitr; · iexact Hrec
  isplitl [Hu]; · iexact Hu
  isplitl [Hl]; · iexact Hl
  isplitl [HO]; · iexact HO
  iintro ⟨Hf, HO⟩
  isplitl [HE]; · iexact HE
  isplitl [HU]; · iexact HU
  isplitl [Hf HF]
  · isplitl [Hf] <;> iassumption
  isplitl [HS]; · iexact HS
  isplitl [HW]; · iexact HW
  isplitl [HG]; · iexact HG
  isplitl [HP]; · iexact HP
  isplitl [HL]; · iexact HL
  isplitl [HO]
  · iexists W; iexact HO
  isplitl [HA]; · iexact HA
  isplitl [HB]; · iexact HB
  iexact Hout

/-- Waiting for the neighbour's transfer. -/
theorem recv_run (c : Dev nD) (j : Xfer) (s : St) (h : allowed s (.recv j) = true) :
    iprop(records A κ ∗ own A B c s) ⊢ runs c (stepProg c (.recv j)) fun _ => own A B c (after s (.recv j)) := by
  obtain ⟨h1, h2, h3, h4, h5⟩ := of_decide_eq_true h
  unfold own after
  dsimp only
  rw [take_out h1, put_in h2, put_in h3, put_in h4]
  iintro ⟨#Hrec, HE, HU, HF, HS, ⟨Hw, HW⟩, HG, HP, HL, ⟨%W, HO⟩, HA, HB, Hout⟩
  unfold awaitedX
  icases Hw with ⟨Hc, Hat⟩
  unfold runs stepProg Step.run Prog.lift
  iapply (Rounds.wp_wait_rest_token 𝒱₀ ER (ringRd A) (c : Thread nD τ) none (κ := κ (c, some (true, j))) (sm := .dma (rcvS j)) (k' := N)
      (fun K => (wpE_waitDma2_eq 𝒱₀ (c : Thread nD τ) none Set.univ K).trans (by rw [credit_eq])) (Set.mem_univ _) ()
      (O := dueX c s.unsent) (W := W) (R := 0) (m := 0) (T := ∅) (by rw [Nat.zero_add, expect_recv])) $$ [Hc HO Hat]
  · isplitr; · iapply (records_inv A κ (c, some (true, j))); iexact Hrec
    isplitl [Hc]; · iexact Hc
    isplitl [HO]; · iexact HO
    isplitr; · iapply (records_recv A κ c j s.unsent h5); iexact Hrec
    iexact Hat
  iintro ⟨HO, Hat, -, Hpay⟩
  ihave Hh := (Entails.of_eq (rest_recv A c j)) $$ Hpay
  ihave Hh := (holds_split A c (dst j)) $$ Hh
  icases Hh with ⟨Hk, Hl⟩
  imod (Rounds.cell_close ER (ringRd A) (Set.mem_univ (κ (c, some (true, j)))) (fun h => h) (R := 0 + 1) (duties_later A (recvCell c j))) $$ [Hat] with Hz
  · isplitr; · iapply (records_inv A κ (c, some (true, j))); iexact Hrec
    iexact Hat
  rw [wp_ret]; imodintro
  isplitl [HE]; · iexact HE
  isplitl [HU]; · iexact HU
  isplitl [HF]; · iexact HF
  isplitl [HS]; · iexact HS
  isplitl [HW]; · iexact HW
  isplitl [Hz HG]
  · isplitl [Hz] <;> iassumption
  isplitl [Hk HP]
  · isplitl [Hk] <;> iassumption
  isplitl [Hl HL]
  · isplitl [Hl] <;> iassumption
  isplitl [HO]
  · iexists _; iexact HO
  isplitl [HA]; · iexact HA
  isplitl [HB]; · iexact HB
  iexact Hout

/-- Waiting until a transfer's source has been read. -/
theorem done_run (c : Dev nD) (j : Xfer) (s : St) (h : allowed s (.done j) = true) :
    iprop(records A κ ∗ own A B c s) ⊢ runs c (stepProg c (.done j)) fun _ => own A B c (after s (.done j)) := by
  obtain ⟨h1, h2, h3, h4⟩ := of_decide_eq_true h
  unfold own after
  dsimp only
  rw [take_out h1, put_in h2, put_in h3]
  iintro ⟨#Hrec, HE, HU, ⟨Hw, HF⟩, HS, HW, HG, HP, HL, ⟨%W, HO⟩, HA, HB, Hout⟩
  unfold flyingX
  icases Hw with ⟨Hc, Hat⟩
  unfold runs stepProg Step.run Prog.lift
  iapply (Rounds.wp_wait_rest_token 𝒱₀ ER (ringRd A) (c : Thread nD τ) none (κ := κ (c, some (false, j))) (sm := .dma (sndS j)) (k' := N)
      (fun K => (wpE_waitDma2_eq 𝒱₀ (c : Thread nD τ) none Set.univ K).trans (by rw [credit_eq])) (Set.mem_univ _) ()
      (O := dueX c s.unsent) (W := W) (R := 0) (m := 0) (T := ∅) (by rw [Nat.zero_add, expect_send])) $$ [Hc HO Hat]
  · isplitr; · iapply (records_inv A κ (c, some (false, j))); iexact Hrec
    isplitl [Hc]; · iexact Hc
    isplitl [HO]; · iexact HO
    isplitr; · rw [h4, dueX_empty, MayWait_zero]; iempintro
    iexact Hat
  iintro ⟨HO, Hat, -, Hpay⟩
  ihave Hl := (Entails.of_eq (rest_send A c j)) $$ Hpay
  imod (Rounds.cell_close ER (ringRd A) (Set.mem_univ (κ (c, some (false, j)))) (fun h => h) (R := 0 + 1) (duties_later A (sendCell c j))) $$ [Hat] with Hz
  · isplitr; · iapply (records_inv A κ (c, some (false, j))); iexact Hrec
    iexact Hat
  rw [wp_ret]; imodintro
  isplitl [HE]; · iexact HE
  isplitl [HU]; · iexact HU
  isplitl [HF]; · iexact HF
  isplitl [Hz HS]
  · isplitl [Hz] <;> iassumption
  isplitl [HW]; · iexact HW
  isplitl [HG]; · iexact HG
  isplitl [HP]; · iexact HP
  isplitl [Hl HL]
  · isplitl [Hl] <;> iassumption
  isplitl [HO]
  · iexists _; iexact HO
  isplitl [HA]; · iexact HA
  isplitl [HB]; · iexact HB
  iexact Hout

/-- Storing a block: the right factor loaded, the old rows loaded, the product stored. -/
theorem store_block (c : Dev nD) (t : Task) (D : Finset Task) (x : Vec F S256x256 .f32) (hx : x = val A c (taskSlot t)) (Q : PUnit → sProp 𝕄) :
    iprop(ptsB B c ∗ ptsO A B c D ∗ ((ptsB B c ∗ ptsO A B c (insert t D)) -∗ Q ⟨⟩))
      ⊢ runs c (do
        let y : Vec F S256x512 .f32 ← Prog.lift (.load bufB rectB.toLoadRect (View.loadsAt_vmem h_S256x512))
        let _ ← (Prog.lift (.load bufO (taskRect c t).toLoadRect (View.loadsAt_vmem h_S256x512)) : Prog (TpuEff nD τ sig (Elt F) Λ₀ .tc) (Vec F S256x512 .f32))
        Prog.lift (.store bufO (taskRect c t) (prod x y) Finset.univ (View.stores_vmem_bits_univ h_S256x512 rfl) (.inl rfl))) Q := by
  unfold ptsB ptsO
  iintro ⟨HB, ⟨%g, %hg, Hout⟩, HQ⟩
  unfold runs
  rw [wp_bind]
  unfold Prog.lift
  iapply (wp_load 𝒱₀ (c : Thread nD τ) none Set.univ (m := bufB) (r := rectB.toLoadRect) (f := B c) (Finset.subset_univ _)) $$ HB; iintro HB
  rw [wp_ret]; imodintro
  rw [wp_bind]
  iapply (wp_load 𝒱₀ (c : Thread nD τ) none Set.univ (m := bufO) (r := (taskRect c t).toLoadRect) (f := g) (Finset.subset_univ _)) $$ Hout; iintro Hout
  rw [wp_ret]; imodintro
  iapply (wp_store 𝒱₀ (c : Thread nD τ) none Set.univ (m := bufO) (r := taskRect c t) (f := g) (Mk := Finset.univ) (Finset.subset_univ _)) $$ Hout; iintro Hout
  rw [wp_ret]; imodintro
  iapply HQ
  isplitl [HB]; · iexact HB
  iexists ((bufO.access (taskRect c t)).write (Elt F) g (prod x (bufB.view.readAt (Elt F) rectB.toLoadRect (B c))) Finset.univ)
  isplitr
  · ipureintro
    have e : prod x (bufB.view.readAt (Elt F) rectB.toLoadRect (B c)) = blockOf A B c t := by rw [hx]; rfl
    rw [e]
    exact good_write A B c D g t hg
  iexact Hout

/-- Multiplying the own half block. -/
theorem own_run (c : Dev nD) (b : Fin 2) (s : St) (h : allowed s (.own b) = true) :
    iprop(records A κ ∗ own A B c s) ⊢ runs c (stepProg c (.own b)) fun _ => own A B c (after s (.own b)) := by
  unfold own after
  dsimp only
  iintro ⟨#Hrec, HE, HU, HF, HS, HW, HG, HP, HL, HO, HA, HB, Hout⟩
  unfold runs stepProg Step.run
  rw [wp_bind]
  unfold ptsA
  iapply (wp_load 𝒱₀ (c : Thread nD τ) none Set.univ (m := bufA) (r := (rectA b).toLoadRect) (f := A c) (Finset.subset_univ _)) $$ HA; iintro HA
  rw [wp_ret]; imodintro
  iapply (store_block A B c (.inl b) s.made _ (val_home A c true b).symm)
  isplitl [HB]; · iexact HB
  isplitl [Hout]; · iexact Hout
  iintro ⟨HB, Hout⟩
  isplitl [HE]; · iexact HE
  isplitl [HU]; · iexact HU
  isplitl [HF]; · iexact HF
  isplitl [HS]; · iexact HS
  isplitl [HW]; · iexact HW
  isplitl [HG]; · iexact HG
  isplitl [HP]; · iexact HP
  isplitl [HL]; · iexact HL
  isplitl [HO]; · iexact HO
  isplitl [HA]; · iexact HA
  isplitl [HB]; · iexact HB
  iexact Hout

/-- Multiplying a half block a neighbour brought. -/
theorem mul_run (c : Dev nD) (j : Xfer) (s : St) (h : allowed s (.mul j) = true) :
    iprop(records A κ ∗ own A B c s) ⊢ runs c (stepProg c (.mul j)) fun _ => own A B c (after s (.mul j)) := by
  have h1 : dst j ∈ s.filled := of_decide_eq_true h
  unfold own after
  dsimp only
  rw [take_out h1]
  iintro ⟨#Hrec, HE, HU, HF, HS, HW, HG, ⟨Hk, HP⟩, HL, HO, HA, HB, Hout⟩
  unfold runs stepProg Step.run
  rw [wp_bind]
  unfold holds
  icases Hk with ⟨%f, %hf, Hk⟩
  iapply (slot_load c (dst j) kept f)
  isplitl [Hk]; · iexact Hk
  iintro %v %hv Hk
  iapply (store_block A B c (.inr j) s.made _ (hv.trans hf))
  isplitl [HB]; · iexact HB
  isplitl [Hout]; · iexact Hout
  iintro ⟨HB, Hout⟩
  isplitl [HE]; · iexact HE
  isplitl [HU]; · iexact HU
  isplitl [HF]; · iexact HF
  isplitl [HS]; · iexact HS
  isplitl [HW]; · iexact HW
  isplitl [HG]; · iexact HG
  isplitl [Hk HP]
  · isplitl [Hk]
    · iexists f; isplitr; · (ipureintro; exact hf)
      iexact Hk
    iexact HP
  isplitl [HL]; · iexact HL
  isplitl [HO]; · iexact HO
  isplitl [HA]; · iexact HA
  isplitl [HB]; · iexact HB
  iexact Hout

/-- Every step, where it is allowed. -/
theorem step_run (c : Dev nD) (a : Step) (s : St) (h : allowed s a = true) :
    iprop(records A κ ∗ own A B c s) ⊢ runs c (stepProg c a) fun _ => own A B c (after s a) := by
  cases a with
  | keep w b => exact keep_run A B κ c w b s h
  | send j => exact send_run A B κ c j s h
  | recv j => exact recv_run A B κ c j s h
  | own b => exact own_run A B κ c b s h
  | mul j => exact mul_run A B κ c j s h
  | done j => exact done_run A B κ c j s h

/-- A list of steps, each allowed when it is reached. -/
theorem walk_run (c : Dev nD) (l : List Step) : ∀ s s' : St, advances s l = some s' →
    iprop(records A κ ∗ own A B c s)
      ⊢ runs c (walk bufA bufB bufO bufL bufR cc0_scratch2 cc0_scratch3 cc0_scratch4 cc0_scratch5 c l) fun _ => own A B c s' := by
  induction l with
  | nil =>
    intro s s' h
    obtain rfl := Option.some.inj h
    unfold walk runs
    rw [Prog.pure_eq_ret, wp_ret]
    iintro ⟨-, H⟩; imodintro; iexact H
  | cons a l ih =>
    intro s s' h
    unfold advances at h
    by_cases ha : allowed s a = true
    · rw [if_pos ha] at h
      unfold walk runs
      rw [wp_bind]
      iintro ⟨#Hrec, H⟩
      ihave Hw := (step_run A B κ c a s ha) $$ [H]
      · isplitr <;> iassumption
      ihave Hw := (wp_wand (Fr := frame) (wpE := wpE (defs₀ (F := F)) 𝒱₀ (c : Thread nD τ) none)) $$ Hw
      iapply Hw
      iintro %x H
      iapply (ih (after s a) s' h)
      isplitr <;> iassumption
    · rw [if_neg ha] at h; cases h

end Own

end Cert.KernelIdeal.Ring

end
-- ==== Proof.Body.lean ====
/-
The whole body on one device: the entry handshake, then the list of steps from its start to its end.

Before the handshake a device owns its two scratch buffers whole; they are cut into their slots, the slots the
neighbours fill are handed over with the two signals, and at the end every slot is back and the buffers are whole
again. The result array's blocks cover it, so at the end its contents are named (`outAt`).
-/
module

public import proofs.«01_k».proof.Proof.Walk

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The scratch buffers and their slots -/

/-- The clockwise buffer's slots share no element, -/
theorem rectL_disjoint (p q : Fin 9 × Fin 2) (h : p ≠ q) : Disjoint (rectL p.1 p.2).set (rectL q.1 q.2).set := by
  by_cases h1 : p.1 = q.1
  · refine Rect.unit_disjoint (s := S9x2x256x256) 1 ?_
    have : p.2.val ≠ q.2.val := fun e => h (Prod.ext h1 (Fin.ext e))
    show p.2.val + 1 ≤ q.2.val ∨ q.2.val + 1 ≤ p.2.val
    omega
  · refine Rect.unit_disjoint (s := S9x2x256x256) 0 ?_
    have : p.1.val ≠ q.1.val := fun e => h1 (Fin.ext e)
    show p.1.val + 1 ≤ q.1.val ∨ q.1.val + 1 ≤ p.1.val
    omega
/-- nor do the counter-clockwise buffer's. -/
theorem rectR_disjoint (p q : Fin 8 × Fin 2) (h : p ≠ q) : Disjoint (rectR p.1 p.2).set (rectR q.1 q.2).set := by
  by_cases h1 : p.1 = q.1
  · refine Rect.unit_disjoint (s := S8x2x256x256) 1 ?_
    have : p.2.val ≠ q.2.val := fun e => h (Prod.ext h1 (Fin.ext e))
    show p.2.val + 1 ≤ q.2.val ∨ q.2.val + 1 ≤ p.2.val
    omega
  · refine Rect.unit_disjoint (s := S8x2x256x256) 0 ?_
    have : p.1.val ≠ q.1.val := fun e => h1 (Fin.ext e)
    show p.1.val + 1 ≤ q.1.val ∨ q.1.val + 1 ≤ p.1.val
    omega

/-- Together they are the buffer. -/
theorem rectL_cover : (Finset.univ.biUnion fun p : Fin 9 × Fin 2 => (rectL p.1 p.2).set) = Finset.univ := by
  refine Finset.eq_univ_iff_forall.mpr fun i => Finset.mem_biUnion.mpr ⟨((⟨(i 0).val, (i 0).isLt⟩ : Fin 9), (⟨(i 1).val, (i 1).isLt⟩ : Fin 2)), Finset.mem_univ _, ?_⟩
  refine Rect.mem_set_unit.mpr fun a => ?_
  fin_cases a
  · exact ⟨Nat.le_refl _, Nat.lt_succ_self _⟩
  · exact ⟨Nat.le_refl _, Nat.lt_succ_self _⟩
  · exact ⟨Nat.zero_le _, (i 2).isLt⟩
  · exact ⟨Nat.zero_le _, (i 3).isLt⟩
theorem rectR_cover : (Finset.univ.biUnion fun p : Fin 8 × Fin 2 => (rectR p.1 p.2).set) = Finset.univ := by
  refine Finset.eq_univ_iff_forall.mpr fun i => Finset.mem_biUnion.mpr ⟨((⟨(i 0).val, (i 0).isLt⟩ : Fin 8), (⟨(i 1).val, (i 1).isLt⟩ : Fin 2)), Finset.mem_univ _, ?_⟩
  refine Rect.mem_set_unit.mpr fun a => ?_
  fin_cases a
  · exact ⟨Nat.le_refl _, Nat.lt_succ_self _⟩
  · exact ⟨Nat.le_refl _, Nat.lt_succ_self _⟩
  · exact ⟨Nat.zero_le _, (i 2).isLt⟩
  · exact ⟨Nat.zero_le _, (i 3).isLt⟩

/-- Device `c`'s two scratch buffers, whole, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

omit [FloatOps F] in
/-- A clockwise slot's elements in the buffer. -/
theorem free_inl (c : Dev nD) (p : Fin 9 × Fin 2) :
    free (F := F) c (.inl p) = iprop(∃ f : Buf (Elt F) ((c : Thread nD τ).loc cc0_scratch0), ((c : Thread nD τ).loc cc0_scratch0) ↦[(rectL p.1 p.2).set]{fullShare} f) := by
  unfold free
  rw [show (sM (.inl p)).view.set = (rectL p.1 p.2).set from (slotL_set p.1 p.2).trans (View.set_slice_whole _ _)]
  rfl
omit [FloatOps F] in
/-- A counter-clockwise slot's elements in the buffer. -/
theorem free_inr (c : Dev nD) (p : Fin 8 × Fin 2) :
    free (F := F) c (.inr p) = iprop(∃ f : Buf (Elt F) ((c : Thread nD τ).loc cc0_scratch1), ((c : Thread nD τ).loc cc0_scratch1) ↦[(rectR p.1 p.2).set]{fullShare} f) := by
  unfold free
  rw [show (sM (.inr p)).view.set = (rectR p.1 p.2).set from (slotR_set p.1 p.2).trans (View.set_slice_whole _ _)]
  rfl

omit [FloatOps F] in
/-- A buffer cut along a family of disjoint sets covering it. -/
theorem cut {T : Type} [Fintype T] {ℓ : Loc nD τ sig} (I : T → Finset (Idx ℓ)) (hd : ∀ t t', t ≠ t' → Disjoint (I t) (I t'))
    (hc : Finset.univ.biUnion I = Finset.univ) :
    (iprop(∃ f : Buf (Elt F) ℓ, ℓ ↦{fullShare} f) : sProp 𝕄) ⊢ bigSep Finset.univ fun t => iprop(∃ f : Buf (Elt F) ℓ, ℓ ↦[I t]{fullShare} f) := by
  iintro ⟨%f, H⟩
  have e : (ℓ ↦{fullShare} f : sProp 𝕄) = bigSep Finset.univ fun t => ℓ ↦[I t]{fullShare} f := by
    rw [← pointsTo_biUnion Finset.univ I (fun t _ t' _ h => hd t t' h), hc]
  have hm : (bigSep Finset.univ fun t => (ℓ ↦[I t]{fullShare} f : sProp 𝕄)) ⊢ bigSep Finset.univ fun t => iprop(∃ f : Buf (Elt F) ℓ, ℓ ↦[I t]{fullShare} f) :=
    bigSep_mono fun t _ => (show (ℓ ↦[I t]{fullShare} f : sProp 𝕄) ⊢ iprop(∃ f : Buf (Elt F) ℓ, ℓ ↦[I t]{fullShare} f) from by
      iintro H; iexists f; iexact H)
  ihave H := (Entails.of_eq e) $$ H
  iapply hm $$ H

omit [FloatOps F] in
/-- The pieces of such a family put together. -/
theorem glue {T : Type} [Fintype T] {ℓ : Loc nD τ sig} (f₀ : Buf (Elt F) ℓ) (I : T → Finset (Idx ℓ)) (hd : ∀ t t', t ≠ t' → Disjoint (I t) (I t'))
    (hc : Finset.univ.biUnion I = Finset.univ) :
    (bigSep Finset.univ fun t => iprop(∃ f : Buf (Elt F) ℓ, ℓ ↦[I t]{fullShare} f)) ⊢ (iprop(∃ f : Buf (Elt F) ℓ, ℓ ↦{fullShare} f) : sProp 𝕄) := by
  classical
  haveI : Nonempty (Buf (Elt F) ℓ) := ⟨f₀⟩
  iintro H
  ihave H := (BI.bigSep_exists_pi Finset.univ (fun (t : T) (f : Buf (Elt F) ℓ) => (ℓ ↦[I t]{fullShare} f : sProp 𝕄))) $$ H
  icases H with ⟨%fs, H⟩
  ihave H := (pointsTo_biUnion_join Finset.univ I fs f₀ (fun t _ t' _ h => hd t t' h)) $$ H
  icases H with ⟨%g, -, H⟩
  iexists g
  rw [hc]
  iexact H

omit [FloatOps F] in
/-- A family over two kinds of index is the two families. -/
theorem sum_eq {I J : Type} [Fintype I] [Fintype J] (Φ : I ⊕ J → sProp 𝕄) :
    bigSep Finset.univ Φ = iprop(bigSep Finset.univ (fun i => Φ (.inl i)) ∗ bigSep Finset.univ (fun j => Φ (.inr j))) := bigSep_univ_sum Φ

/-- A device's slots: the two slots 0 of each buffer, and the slots the neighbours' transfers fill. -/
def slotSum : (Bool × Fin 2) ⊕ Xfer → Slot := Sum.elim (fun p => home p.1 p.2) dst

theorem slotSum_bijective : Function.Bijective slotSum :=
  (Fintype.bijective_iff_injective_and_card slotSum).mpr ⟨by decide +kernel, by decide +kernel⟩

omit [FloatOps F] in
theorem slots_eq (Φ : Slot → sProp 𝕄) :
    bigSep Finset.univ Φ = iprop(bigSep Finset.univ (fun p : Bool × Fin 2 => Φ (home p.1 p.2)) ∗ bigSep Finset.univ (fun j : Xfer => Φ (dst j))) := by
  rw [bigSep_univ_equiv (Equiv.ofBijective slotSum slotSum_bijective) Φ, sum_eq]
  rfl

omit [FloatOps F] in
/-- The scratch buffers cut into slots: the slots 0, and the slots each neighbour fills. -/
theorem scratch_open (c : Dev nD) :
    scratch (F := F) c ⊢ iprop(bigSep Finset.univ (fun p : Bool × Fin 2 => free (F := F) c (home p.1 p.2)) ∗ freeL (F := F) c ∗ freeR (F := F) c) := by
  have e : iprop(bigSep Finset.univ (fun p : Bool × Fin 2 => free (F := F) c (home p.1 p.2)) ∗ freeL (F := F) c ∗ freeR (F := F) c)
      = iprop(bigSep Finset.univ (fun p : Fin 9 × Fin 2 => free (F := F) c (.inl p)) ∗ bigSep Finset.univ (fun p : Fin 8 × Fin 2 => free (F := F) c (.inr p))) := by
    refine Eq.trans ?_ ((slots_eq (fun s => free (F := F) c s)).symm.trans (sum_eq _))
    rw [sum_eq (fun j : Xfer => free (F := F) c (dst j))]
    rfl
  rw [e]
  unfold scratch
  iintro ⟨H0, H1⟩
  isplitl [H0]
  · ihave H := (cut (F := F) (ℓ := (c : Thread nD τ).loc cc0_scratch0) (fun p : Fin 9 × Fin 2 => (rectL p.1 p.2).set) rectL_disjoint rectL_cover) $$ H0
    iapply (Entails.of_eq (bigSep_congr fun p _ => (free_inl (F := F) c p).symm)) $$ H
  · ihave H := (cut (F := F) (ℓ := (c : Thread nD τ).loc cc0_scratch1) (fun p : Fin 8 × Fin 2 => (rectR p.1 p.2).set) rectR_disjoint rectR_cover) $$ H1
    iapply (Entails.of_eq (bigSep_congr fun p _ => (free_inr (F := F) c p).symm)) $$ H

/-- All slots together are the scratch buffers. -/
theorem scratch_close (c : Dev nD) : bigSep Finset.univ (fun s : Slot => free (F := F) c s) ⊢ scratch (F := F) c := by
  rw [sum_eq]
  unfold scratch
  iintro ⟨H0, H1⟩
  isplitl [H0]
  · ihave H := (Entails.of_eq (bigSep_congr fun p _ => free_inl (F := F) c p)) $$ H0
    iapply (glue (F := F) (ℓ := (c : Thread nD τ).loc cc0_scratch0) (fun _ => (FloatOps.ofBits .f32 0#32 : F .f32)) (fun p : Fin 9 × Fin 2 => (rectL p.1 p.2).set) rectL_disjoint rectL_cover) $$ H
  · ihave H := (Entails.of_eq (bigSep_congr fun p _ => free_inr (F := F) c p)) $$ H1
    iapply (glue (F := F) (ℓ := (c : Thread nD τ).loc cc0_scratch1) (fun _ => (FloatOps.ofBits .f32 0#32 : F .f32)) (fun p : Fin 8 × Fin 2 => (rectR p.1 p.2).set) rectR_disjoint rectR_cover) $$ H

section Body

variable (A : Dev nD → Vec F S512x256 .f32) (B : Dev nD → Vec F S256x512 .f32)

/-! ## The result -/

/-- The device whose block of rows row `i` of the result comes from, and the half of it. -/
def rowDev (i : S8192x512.Idx) : Dev nD := ⟨(i 0).val / 512, by have : (i 0).val < 8192 := (i 0).isLt; show _ < 16; omega⟩
def rowHalf (i : S8192x512.Idx) : Fin 2 := ⟨(i 0).val % 512 / 256, by omega⟩
/-- Its place in that half block's product. -/
def rowIn (i : S8192x512.Idx) : S256x512.Idx := fun a => match a with
  | ⟨0, _⟩ => ⟨(i 0).val % 256, Nat.mod_lt _ (by decide)⟩
  | ⟨1, _⟩ => ⟨(i 1).val, (i 1).isLt⟩

/-- The result of device `c`: every half block of every device times the right factor. -/
def outAt (c : Dev nD) : Vec F S8192x512 .f32 := fun i => prod (chunk A (rowDev i) (rowHalf i)) (factor B c) (rowIn i)

/-- Once every block holds its product the result is that. -/
theorem good_all (c : Dev nD) (g : Vec F S8192x512 .f32) (h : good A B c Finset.univ g) : g = outAt A B c := by
  funext i
  obtain ⟨t, h1, h2⟩ := task_surj c (rowDev i) (rowHalf i)
  have e := congrFun (h t (Finset.mem_univ t)) (rowIn i)
  have hi : (taskRect c t).emb (rowIn i) = i := by
    funext a
    apply Fin.ext
    rw [Rect.emb_apply]
    fin_cases a
    · show taskOff c t 0 + 1 * ((i 0).val % 256) = (i 0).val
      rw [taskOff_rows, h1, h2]
      show 512 * ((i 0).val / 512) + 256 * ((i 0).val % 512 / 256) + 1 * ((i 0).val % 256) = (i 0).val
      omega
    · show taskOff c t 1 + 1 * (i 1).val = (i 1).val
      rw [taskOff_cols, Nat.zero_add, Nat.one_mul]
  have e' : g ((taskRect c t).emb (rowIn i)) = blockOf A B c t (rowIn i) := e
  rw [hi] at e'
  rw [e']
  unfold blockOf val outAt
  rw [h1, h2]

/-! ## What a device starts with and ends with -/

variable (κ : Dev nD × Key → ℕ)

/-- A device's part of one transfer in each direction: the duties it pays, and its positions at the two cells. -/
def part (c : Dev nD) (j : Xfer) : sProp 𝕄 :=
  iprop(dutyTok ER (sendCell c j) 0 false ∗ dutyTok ER (recvCell (nbr c j) j) 0 false
    ∗ atPos ER (sendCell c j) 0 ∅ 0 ∗ atPos ER (recvCell c j) 0 ∅ 0)

/-- A device's part of the protocol. -/
def linear (c : Dev nD) : sProp 𝕄 :=
  iprop(atPos ER (barCell c) 0 ∅ 0 ∗ dutyTok ER (barCell (prv c)) 0 true ∗ dutyTok ER (barCell (nxt c)) 0 false
    ∗ bigSep Finset.univ (part (F := F) c))

/-- The credit a device's waits on what the neighbours owe it are against. -/
def credits (c : Dev nD) : sProp 𝕄 :=
  iprop(cred (tallyAt (barCell c) () 2) ∗ bigSep Finset.univ (fun j : Xfer => cred (tallyAt (recvCell c j) () N)))

/-- A device's semaphores at zero again. -/
def zeros (c : Dev nD) : sProp 𝕄 :=
  iprop(semVal (barCell c) 0 ∗ bigSep Finset.univ (fun j : Xfer => semVal (sendCell c j) 0) ∗ bigSep Finset.univ (fun j : Xfer => semVal (recvCell c j) 0))

/-- The result array of device `c` at contents `g`. -/
def outPts (c : Dev nD) (g : Buf (Elt F) ((c : Thread nD τ).loc cc0_stg2_0)) : sProp 𝕄 := ((c : Thread nD τ).loc cc0_stg2_0) ↦{fullShare} g

set_option maxRecDepth 20000 in
omit [FloatOps F] in
/-- Device `c` may wait for the handshake while it owes its transfers. -/
theorem records_bar (c : Dev nD) : records A κ ⊢ MayWait (c : Thread nD τ) (.reg barS) () (dueX c Finset.univ) :=
  (records_lev A κ).trans (mayWait_bar c)

omit [FloatOps F] in
/-- A family of pairs is the two families, -/
theorem both_eq {I : Type} (S : Finset I) (Φ Ψ : I → sProp 𝕄) :
    bigSep S (fun i => iprop(Φ i ∗ Ψ i)) = iprop(bigSep S Φ ∗ bigSep S Ψ) := bigSep_sep S Φ Ψ
omit [FloatOps F] in
/-- and a family over no index is nothing. -/
theorem none_eq {I : Type} (Φ : I → sProp 𝕄) : bigSep ∅ Φ = iprop(emp) := bigSep_empty
omit [FloatOps F] in
/-- The shares the device read from and the shares it lent make every slot whole. -/
theorem joined (c : Dev nD) :
    iprop(bigSep Finset.univ (fun x : Slot => holds A c x kept) ∗ bigSep Finset.univ (fun x : Slot => holds A c x lent))
      ⊢ bigSep Finset.univ (fun s : Slot => free (F := F) c s) := by
  rw [← both_eq]
  exact bigSep_mono fun s _ => holds_join A c s

/-- After the handshake a device owns what the list of steps starts from. -/
theorem own_first (c : Dev nD) (g : Buf (Elt F) ((c : Thread nD τ).loc cc0_stg2_0)) :
    iprop(bigSep Finset.univ (fun p : Bool × Fin 2 => free (F := F) c (home p.1 p.2)) ∗ bigSep Finset.univ (fun j : Xfer => free (F := F) (nbr c j) (dst j))
        ∗ bigSep Finset.univ (part (F := F) c) ∗ bigSep Finset.univ (fun j : Xfer => cred (tallyAt (recvCell c j) () N))
        ∗ (∃ W, owes (c : Thread nD τ) (dueX c Finset.univ) W) ∗ ptsA A c ∗ ptsB B c ∗ outPts c g)
      ⊢ own A B c first := by
  have hp : bigSep Finset.univ (part (F := F) c) = iprop(bigSep Finset.univ (fun j : Xfer => (dutyTok ER (sendCell c j) 0 false : sProp 𝕄))
      ∗ bigSep Finset.univ (fun j : Xfer => (dutyTok ER (recvCell (nbr c j) j) 0 false : sProp 𝕄))
      ∗ bigSep Finset.univ (fun j : Xfer => (atPos ER (sendCell c j) 0 ∅ 0 : sProp 𝕄))
      ∗ bigSep Finset.univ (fun j : Xfer => (atPos ER (recvCell c j) 0 ∅ 0 : sProp 𝕄))) := by
    unfold part; simp only [both_eq]
  have hu : bigSep Finset.univ (unsentX (F := F) c) = iprop(bigSep Finset.univ (fun j : Xfer => (dutyTok ER (sendCell c j) 0 false : sProp 𝕄))
      ∗ bigSep Finset.univ (fun j : Xfer => (dutyTok ER (recvCell (nbr c j) j) 0 false : sProp 𝕄))
      ∗ bigSep Finset.univ (fun j : Xfer => free (F := F) (nbr c j) (dst j))
      ∗ bigSep Finset.univ (fun j : Xfer => (atPos ER (sendCell c j) 0 ∅ 0 : sProp 𝕄))) := by
    unfold unsentX; simp only [both_eq]
  have hw : bigSep Finset.univ (awaitedX (F := F) c) = iprop(bigSep Finset.univ (fun j : Xfer => (cred (tallyAt (recvCell c j) () N) : sProp 𝕄))
      ∗ bigSep Finset.univ (fun j : Xfer => (atPos ER (recvCell c j) 0 ∅ 0 : sProp 𝕄))) := by
    unfold awaitedX; simp only [both_eq]
  unfold own first
  dsimp only
  rw [hp, hu, hw]
  simp only [none_eq]
  iintro ⟨HE, HF, ⟨H1, H2, H3, H4⟩, HC, HO, HA, HB, Hout⟩
  isplitl [HE]; · iexact HE
  isplitl [H1 H2 HF H3]
  · isplitl [H1]; · iexact H1
    isplitl [H2]; · iexact H2
    isplitl [HF] <;> iassumption
  isplitr; · iempintro
  isplitr; · iempintro
  isplitl [HC H4]
  · isplitl [HC] <;> iassumption
  isplitr; · iempintro
  isplitr; · iempintro
  isplitr; · iempintro
  isplitl [HO]; · iexact HO
  isplitl [HA]; · iexact HA
  isplitl [HB]; · iexact HB
  unfold ptsO
  iexists g
  isplitr
  · ipureintro
    exact fun t ht => absurd ht (Finset.notMem_empty t)
  unfold outPts
  iexact Hout

/-- What it owns at the end is the buffers whole, the semaphores at zero and the result. -/
theorem own_last (c : Dev nD) :
    own A B c last ⊢ iprop(scratch (F := F) c ∗ bigSep Finset.univ (fun j : Xfer => semVal (sendCell c j) 0) ∗ bigSep Finset.univ (fun j : Xfer => semVal (recvCell c j) 0)
      ∗ (∃ W, owes (c : Thread nD τ) 0 W) ∗ ptsA A c ∗ ptsB B c ∗ outPts c (outAt A B c)) := by
  unfold own last
  dsimp only
  iintro ⟨-, -, -, HS, -, HG, HP, HL, ⟨%W, HO⟩, HA, HB, Hout⟩
  ihave Hs := (joined A c) $$ [HP HL]
  · isplitl [HP] <;> iassumption
  isplitl [Hs]; · iapply (scratch_close (F := F) c); iexact Hs
  isplitl [HS]; · iexact HS
  isplitl [HG]; · iexact HG
  isplitl [HO]; · (iexists W; iexact HO)
  isplitl [HA]; · iexact HA
  isplitl [HB]; · iexact HB
  unfold ptsO outPts
  icases Hout with ⟨%g, %hg, H⟩
  obtain rfl := good_all A B c g hg
  iexact H

/-- The body on device `c`, from its part of the protocol, its buffers and what it owes, to the buffers whole, every
    semaphore at zero, nothing owed and the result made. -/
theorem prog_run (c : Dev nD) (W : Waits sig Unit) (g : Buf (Elt F) ((c : Thread nD τ).loc cc0_stg2_0)) :
    iprop(records A κ ∗ linear (F := F) c ∗ credits (F := F) c ∗ scratch (F := F) c ∗ owes (c : Thread nD τ) (O₀ c) W ∗ ptsA A c ∗ ptsB B c ∗ outPts c g)
      ⊢ runs c (prog (F := F) bufA bufB bufO bufL bufR cc0_scratch2 cc0_scratch3 cc0_scratch4 cc0_scratch5) fun _ =>
          iprop(scratch (F := F) c ∗ zeros (F := F) c ∗ (∃ W, owes (c : Thread nD τ) 0 W) ∗ ptsA A c ∗ ptsB B c ∗ outPts c (outAt A B c)) := by
  unfold prog runs
  simp only [semSignalWord, semWaitWord, Prog.lift, Prog.bind_op, Prog.bind_ret, wp_deviceId]
  rw [dev1_eq, dev2_eq]
  unfold linear credits
  iintro ⟨#Hrec, ⟨HatB, HtP, HtN, Hpart⟩, ⟨HcB, HcR⟩, Hscr, HO, HA, HB, Hout⟩
  ihave Hs := (scratch_open (F := F) c) $$ Hscr
  icases Hs with ⟨HE, HL, HR⟩
  -- the left neighbour's signal, with the slots its transfers fill
  iapply (Rounds.wp_signal 𝒱₀ ER (ringRd A) (c : Thread nD τ) none (dst := (prv c : Thread nD τ)) (κ := κ (prv c, none))
      (d := true) (by rw [duties_bar]; exact Finset.mem_univ _) ((amount_bar A (prv c) true).trans (by decide)) () (O₁ c) rfl)
    $$ [HO HtP HL]
  · isplitr; · iapply (records_inv A κ (prv c, none)); iexact Hrec
    isplitl [HO]; · iexact HO
    isplitl [HtP]; · iexact HtP
    isplitl [HL]
    · rw [payload_bar_true, nxt_prv]; iexact HL
    iapply (records_reached A κ (prv c, none)); iexact Hrec
  iintro HO
  unfold O₁
  -- the right neighbour's
  iapply (Rounds.wp_signal 𝒱₀ ER (ringRd A) (c : Thread nD τ) none (dst := (nxt c : Thread nD τ)) (κ := κ (nxt c, none))
      (d := false) (by rw [duties_bar]; exact Finset.mem_univ _) ((amount_bar A (nxt c) false).trans (by decide)) () (dueX c Finset.univ) rfl)
    $$ [HO HtN HR]
  · isplitr; · iapply (records_inv A κ (nxt c, none)); iexact Hrec
    isplitl [HO]; · iexact HO
    isplitl [HtN]; · iexact HtN
    isplitl [HR]
    · rw [payload_bar_false, prv_nxt]; iexact HR
    iapply (records_reached A κ (nxt c, none)); iexact Hrec
  iintro HO
  -- the wait for both neighbours: the slots the device's own transfers fill come with it
  iapply (Rounds.wp_wait_rest_token 𝒱₀ ER (ringRd A) (c : Thread nD τ) none (κ := κ (c, none))
      (wpE_semWait_eq 𝒱₀ (c : Thread nD τ) none Set.univ) (Set.mem_univ _) () (O := dueX c Finset.univ) (W := W) (R := 0) (m := 0) (T := ∅)
      (by rw [expect_bar]; decide)) $$ [HcB HO HatB]
  · isplitr; · iapply (records_inv A κ (c, none)); iexact Hrec
    isplitl [HcB]; · iexact HcB
    isplitl [HO]; · iexact HO
    isplitr; · iapply (records_bar A κ c); iexact Hrec
    iexact HatB
  iintro ⟨HO, HatB, -, Hpay⟩
  ihave HF := (Entails.of_eq (rest_bar A c)) $$ Hpay
  imod (Rounds.cell_close ER (ringRd A) (Set.mem_univ (κ (c, none))) (fun h => h) (R := 0 + 1) (duties_later A (barCell c))) $$ [HatB] with HzB
  · isplitr; · iapply (records_inv A κ (c, none)); iexact Hrec
    iexact HatB
  ihave Hown := (own_first A B c g) $$ [HE HF Hpart HcR HO HA HB Hout]
  · isplitl [HE]; · iexact HE
    isplitl [HF]; · iexact HF
    isplitl [Hpart]; · iexact Hpart
    isplitl [HcR]; · iexact HcR
    isplitl [HO]; · (iexists _; iexact HO)
    isplitl [HA]; · iexact HA
    isplitl [HB] <;> iassumption
  ihave Hw := (walk_run A B κ c steps first last steps_advance) $$ [Hown]
  · isplitr <;> iassumption
  ihave Hw := (wp_wand (Fr := frame) (wpE := wpE (defs₀ (F := F)) 𝒱₀ (c : Thread nD τ) none)) $$ Hw
  iapply Hw
  iintro %x H
  ihave H := (own_last A B c) $$ H
  icases H with ⟨Hs, HzS, HzR, HO, HA, HB, Hout⟩
  isplitl [Hs]; · iexact Hs
  isplitl [HzB HzS HzR]
  · unfold zeros
    isplitl [HzB]; · iexact HzB
    isplitl [HzS] <;> iassumption
  isplitl [HO]; · iexact HO
  isplitl [HA]; · iexact HA
  isplitl [HB] <;> iassumption

end Body

end Cert.KernelIdeal.Ring

end
-- ==== Proof.Listing.lean ====
/-
The printed kernel body runs the list of steps of `Steps.lean`.
-/
module

public import proofs.«01_k».proof.Proof.Steps
public import Idealize.ShloMosaic.Lib.Pipeline.Regions

@[expose] public section

noncomputable section

namespace Cert.KernelIdeal.Ring

open Cert.KernelIdeal Cert.KernelIdeal.Gen
open Idealize.ShloMosaic Idealize.ShloMosaic.TcCoe Idealize.SL.Sem

variable {F : FTy → Type} [FloatOps F]

set_option maxRecDepth 65536 in
/-- The printed body is the entry handshake followed by the steps. -/
theorem body_eq (arg0 : Memref sig .tc .vmem S512x256 .f32) (harg0 : arg0.IsWhole) (arg1 : Memref sig .tc .vmem S256x512 .f32) (harg1 : arg1.IsWhole)
    (arg2 : Memref sig .tc .vmem S8192x512 .f32) (harg2 : arg2.IsWhole) (arg3 : Memref sig .tc .vmem S9x2x256x256 .f32) (harg3 : arg3.IsWhole)
    (arg4 : Memref sig .tc .vmem S8x2x256x256 .f32) (harg4 : arg4.IsWhole) (arg5 arg6 : DmaSems sig S8x2) (arg7 arg8 : DmaSems sig S7x2) :
    cc0_body (F := F) arg0 harg0 arg1 harg1 arg2 harg2 arg3 harg3 arg4 harg4 arg5 arg6 arg7 arg8
      = prog (F := F) arg0 arg1 arg2 arg3 arg4 arg5 arg6 arg7 arg8 := by
  chain_rfl

end Cert.KernelIdeal.Ring

end
-- ==== Proof.Launch.lean ====
/-
The launch: from any memory with zero counters to the sixteen bodies, and from their ends to the final state.

The cells of all devices are allocated at once, the duties dealt around the ring, and each body run by
`prog_run`; the final state has every result array at `outAt`, the arguments unchanged and every counter at zero.
-/
module

public import proofs.«01_k».proof.Proof.Body
public import proofs.«01_k».proof.Proof.Listing

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families over the protocol's semaphores -/

/-- The handshake, each transfer's sender, each transfer's receiver. -/
def keySum : Unit ⊕ (Xfer ⊕ Xfer) → Key
  | .inl _ => none
  | .inr (.inl j) => some (false, j)
  | .inr (.inr j) => some (true, j)

theorem keySum_bijective : Function.Bijective keySum :=
  (Fintype.bijective_iff_injective_and_card keySum).mpr ⟨by decide +kernel, by decide +kernel⟩

omit [FloatOps F] in
theorem keys_eq (Φ : Key → sProp 𝕄) :
    bigSep Finset.univ Φ = iprop(Φ none ∗ bigSep Finset.univ (fun j : Xfer => Φ (some (false, j))) ∗ bigSep Finset.univ (fun j : Xfer => Φ (some (true, j)))) := by
  rw [bigSep_univ_equiv (Equiv.ofBijective keySum keySum_bijective) Φ, sum_eq, sum_eq, bigSep_univ_of_subsingleton ()]
  rfl

/-- The two sides of a transfer. -/
def sideSum : Xfer ⊕ Xfer → Bool × Xfer
  | .inl j => (false, j)
  | .inr j => (true, j)

theorem sideSum_bijective : Function.Bijective sideSum :=
  (Fintype.bijective_iff_injective_and_card sideSum).mpr ⟨by decide +kernel, by decide +kernel⟩

omit [FloatOps F] in
theorem sides_eq (Φ : Bool × Xfer → sProp 𝕄) :
    bigSep Finset.univ Φ = iprop(bigSep Finset.univ (fun j : Xfer => Φ (false, j)) ∗ bigSep Finset.univ (fun j : Xfer => Φ (true, j))) := by
  rw [bigSep_univ_equiv (Equiv.ofBijective sideSum sideSum_bijective) Φ, sum_eq]
  rfl

omit [FloatOps F] in
theorem bools_eq (Φ : Bool → sProp 𝕄) : bigSep Finset.univ Φ = iprop(Φ true ∗ Φ false) :=
  bigSep_univ_eq_bigSepL [true, false] (by decide) (by decide) Φ

/-- The kernel's own semaphores as the launch indexes them: both sides of every transfer. -/
abbrev osem (p : Bool × Xfer) : SemLoc sig := ksem (some p)

theorem osem_dma (p : Bool × Xfer) : ∃ d : DmaSem sig, osem p = .dma d ∧ 3 ≤ d.val := by
  obtain ⟨w, j⟩ := p
  cases w
  · refine ⟨sndS j, rfl, ?_⟩
    rw [sndS_val]; rcases j with ⟨k, b⟩ | ⟨k, b⟩ <;> (show 3 ≤ _ + _; omega)
  · refine ⟨rcvS j, rfl, ?_⟩
    rw [rcvS_val]; rcases j with ⟨k, b⟩ | ⟨k, b⟩ <;> (show 3 ≤ _ + _; omega)

/-- A staging semaphore is none of the protocol's. -/
theorem keyOf_stage (q : DmaSem sig) (h : q.val < 3) : keyOf (.dma q) = none := by
  unfold keyOf
  refine dif_neg ?_
  rintro ⟨_ | p, hk⟩
  · cases hk
  · obtain ⟨d, hd, h3⟩ := osem_dma p
    obtain rfl : d = q := SemLoc.dma.inj (hd.symm.trans hk)
    omega

theorem stage_val (w : Fin cfg0.W) (s : Fin (cfg0.win w).nbuf) : ((cfg0.win w).sem s).val < 3 := by
  revert w s; decide

theorem dma_scoped : ∀ d : DmaSem sig, SemLoc.isScoped (sig := sig) .tc (.dma d) = true := by decide +kernel

theorem ownSemFacts : Pipeline.OwnSemFacts cfg0.spec osem where
  isScoped p := by obtain ⟨d, hd, -⟩ := osem_dma p; rw [hd]; exact dma_scoped d
  inj p q h := Option.some.inj (ksem_inj h)
  disj p w s h := by
    obtain ⟨d, hd, h3⟩ := osem_dma p
    have e : d = (cfg0.win w).sem s := SemLoc.dma.inj (hd.symm.trans h)
    have := stage_val w s
    rw [← e] at this
    omega

/-! ## The proof data -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Each device's block of the left factor, as staged; -/
def blockA (c : Dev nD) : Vec F S512x256 .f32 := iblk m c 0 t0_0
/-- and the right factor. -/
def blockB (c : Dev nD) : Vec F S256x512 .f32 := iblk m c 1 t0_0
/-- The result of device `c`. -/
def result (c : Dev nD) : Vec F S8192x512 .f32 := outAt (blockA m) (blockB m) c

/-- What the launch gives device `c`. -/
def start (c : Dev nD) : sProp 𝕄 := iprop((∃ κ, records (blockA m) κ ∗ linear (F := F) c) ∗ credits (F := F) c)

def Φ₀ (c : Dev nD) : sProp 𝕄 := iprop(start m c ∗ scratch (F := F) c)
def Φ₁ (c : Dev nD) : sProp 𝕄 := iprop(scratch (F := F) c ∗ zeros (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => blockA m c
    | ⟨1, _⟩ => blockB m c
    | ⟨2, _⟩ => result m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

theorem before_0 (c : Dev nD) (d) : (dats m ρ 0 c).before (0 : Fin 3) t0_0 d = blockA m c := by
  unfold Dat.before; rw [if_pos (fetch_0 t0_0)]; rfl
theorem before_1 (c : Dev nD) (d) : (dats m ρ 0 c).before (1 : Fin 3) t0_0 d = blockB m c := by
  unfold Dat.before; rw [if_pos (fetch_1 t0_0)]; rfl

omit [FloatOps F] in
/-- A whole staging buffer at given contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ (F := F) c ∗ (dats m ρ 0 c).owesAt () t0_0.succ ∗ stg c cc0_stg0_0 (blockA m c) ∗ stg c cc0_stg1_0 (blockB m c) ∗ stg c cc0_stg2_0 (result m c))

/-- The body's run in the launch's words. -/
theorem body_sound (c : Dev nD) :
    bodyPre m ρ c ⊢ runs c (prog (F := F) bufA bufB bufO bufL bufR cc0_scratch2 cc0_scratch3 cc0_scratch4 cc0_scratch5) fun _ => bodyPost m ρ c := by
  unfold bodyPre Φ₀ start
  iintro ⟨⟨⟨⟨%κ, #Hrec, Hlin⟩, Hcr⟩, Hscr⟩, Ho, ⟨%d0, %g0, %hg0, HA⟩, ⟨%d1, %g1, %hg1, HB⟩, ⟨%d2, %g2, %hg2, Hout⟩⟩
  obtain rfl : g0 = blockA m c := hg0.trans (before_0 m ρ c d0)
  obtain rfl : g1 = blockB m c := hg1.trans (before_1 m ρ c d1)
  unfold Dat.owesAt Pipeline.owesWithin
  icases Ho with ⟨%W, %hW, HO⟩
  rw [show (dats m ρ 0 c).owed t0_0.castSucc = O₀ c from rfl]
  ihave Hw := (prog_run (blockA m) (blockB m) κ c W g2) $$ [Hlin Hcr Hscr HO HA HB Hout]
  · isplitr; · iexact Hrec
    isplitl [Hlin]; · iexact Hlin
    isplitl [Hcr]; · iexact Hcr
    isplitl [Hscr]; · iexact Hscr
    isplitl [HO]; · iexact HO
    unfold ptsA ptsB outPts
    isplitl [HA]; · iexact HA
    isplitl [HB] <;> iassumption
  ihave Hw := (wp_wand (Fr := frame) (wpE := wpE (defs₀ (F := F)) 𝒱₀ (c : Thread nD τ) none)) $$ Hw
  iapply Hw
  iintro %x ⟨Hs, Hz, ⟨%W', HO⟩, HA, HB, Hout⟩
  unfold bodyPost Φ₁ Dat.owesAt Pipeline.owesWithin ptsA ptsB outPts
  rw [show (dats m ρ 0 c).owed t0_0.succ = 0 from rfl]
  isplitl [Hs Hz]
  · isplitl [Hs] <;> iassumption
  isplitl [HO]
  · iexists W'
    isplitr; · ipureintro; exact fun _ _ => Or.inl trivial
    iexact HO
  isplitl [HA]
  · iexists _; isplitr; · (ipureintro; rfl)
    iexact HA
  isplitl [HB]
  · iexists _; isplitr; · (ipureintro; rfl)
    iexact HB
  iexists _; isplitr; · (ipureintro; rfl)
  iexact Hout

set_option maxRecDepth 65536 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3 cc0_scratch4 cc0_scratch5) (fun _ => bodyPost m ρ c)
  rw [body_eq]
  exact body_sound m ρ c

end Cert.KernelIdeal.Ring

end
-- ==== Proof.Run.lean ====
/-
The run of all sixteen devices.

The protocol's cells are allocated at once, their duties dealt around the ring to the devices that pay them, the
launch credit matched with what the devices owe, and the launch theorem applied.
-/
module

public import proofs.«01_k».proof.Proof.Launch
public import Idealize.ShloMosaic.Lib.Pipeline.CollectiveSegs

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the duties -/

def ringCells : Finset (GSem nD τ sig) := Finset.univ.map ⟨kcell, kcell_injective⟩

/-- A duty of a device's cells: one of the handshake's two, or a transfer cell's one. -/
abbrev Duty : Type := Bool ⊕ (Bool × Xfer)

def dutyAt : Duty → Key × Bool
  | .inl d => (none, d)
  | .inr p => (some p, false)

theorem dutyAt_injective : Function.Injective dutyAt := by
  rintro (d | p) (d' | p') h
  · exact congrArg Sum.inl (congrArg Prod.snd h)
  · cases congrArg Prod.fst h
  · cases congrArg Prod.fst h
  · exact congrArg Sum.inr (Option.some.inj (congrArg Prod.fst h))

/-- A duty's token as minted. -/
def tokOf (x : Dev nD × Duty) : GSem nD τ sig × ℕ × Bool := (kcell (x.1, (dutyAt x.2).1), 0, (dutyAt x.2).2)

theorem tokOf_injective : Function.Injective tokOf := by
  rintro ⟨c, d⟩ ⟨c', d'⟩ h
  have h1 := kcell_injective (congrArg Prod.fst h)
  have h2 : (dutyAt d).2 = (dutyAt d').2 := congrArg (fun x => x.2.2) h
  have h3 : c = c' := congrArg Prod.fst h1
  have h4 : (dutyAt d).1 = (dutyAt d').1 := congrArg Prod.snd h1
  rw [h3, dutyAt_injective (Prod.ext h4 h2)]

def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The duty tokens of device `c`'s own cells. -/
def toks (c : Dev nD) : sProp 𝕄 :=
  iprop((dutyTok ER (barCell c) 0 true ∗ dutyTok ER (barCell c) 0 false)
    ∗ bigSep Finset.univ (fun j : Xfer => dutyTok ER (sendCell c j) 0 false) ∗ bigSep Finset.univ (fun j : Xfer => dutyTok ER (recvCell c j) 0 false))

/-- What the launch element deals device `c`. -/
def G (c : Dev nD) : sProp 𝕄 :=
  iprop((bigSep Finset.univ fun k : Key => roundState ER (ringRd (blockA m)) (kcell (c, k)) 0)
    ∗ (bigSep Finset.univ fun k : Key => iprop(atPos ER (kcell (c, k)) 0 ∅ 0 ∗ reached ER (kcell (c, k)) 0)) ∗ toks (F := F) c)

/-- What every device knows of the cells. -/
def known (κ : Dev nD × Key → ℕ) : sProp 𝕄 :=
  iprop(bigSep Finset.univ (fun p : Dev nD × Key => cellInv ER (ringRd (blockA m)) (κ p) (kcell p))
    ∗ bigSep Finset.univ (fun p : Dev nD × Key => reached ER (kcell p) 0))

instance known_persistent (κ : Dev nD × Key → ℕ) : BI.Persistent (known m κ) := by unfold known; infer_instance

/-- What the allocation of all cells makes of it. -/
def G' (c : Dev nD) : sProp 𝕄 := iprop(∃ κ, known m κ ∗ linear (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Key => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    refine bigSep_congr fun c _ => ?_
    unfold toks
    rw [sum_eq, bools_eq, sides_eq]
    rfl
  iintro HX
  imod (Rounds.fund ER (ringRd (blockA m)) ringCells ringToks) $$ HX with ⟨Hst, Hr, Hat, Htok⟩
  imodintro
  ihave Hst' := (Entails.of_eq (hX fun g => roundState ER (ringRd (blockA m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [both_eq]
  isplitl [Hst']; · iexact Hst'
  isplitl [Hat' Hr']
  · isplitl [Hat'] <;> iassumption
  iexact Htok'

/-! ## Allocating the cells -/

omit [FloatOps F] in
/-- The handshake's semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
/-- The transfers' semaphores are the kernel's own. -/
theorem ownSems0_eq (c : Dev nD) : (Pipeline.ownSems0 (Ix := Unit) (Name := ℕ) (U := UU) (Lvl := ℕ) (Val := Elt F) (τ := τ) osem c : sProp 𝕄)
    = iprop(bigSep Finset.univ (fun j : Xfer => semVal (sendCell c j) 0) ∗ bigSep Finset.univ (fun j : Xfer => semVal (recvCell c j) 0)) := by
  unfold Pipeline.ownSems0; rw [sides_eq]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Key => semVal (kcell (c, k)) 0 : sProp 𝕄) := by
  rw [ownSems0_eq, unscopedSems0_eq, keys_eq]
  iintro ⟨⟨HS, HV⟩, HB⟩
  isplitl [HB]; · iexact HB
  isplitl [HS]; · iexact HS
  iexact HV

/-- One device's cells, allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Key => iprop(∃ κ : ℕ, cellInv ER (ringRd (blockA m)) κ (kcell (c, k))))
          ∗ (bigSep Finset.univ fun k : Key => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Key => semVal (kcell (c, k)) 0) ∗ bigSep Finset.univ fun k : Key => roundState ER (ringRd (blockA m)) (kcell (c, k)) 0)
      ⊢ (|={Set.univ}=> bigSep Finset.univ fun k => iprop(∃ κ : ℕ, cellInv ER (ringRd (blockA m)) κ (kcell (c, k))) : sProp 𝕄) from by
        rw [← both_eq]
        exact (bigSep_mono fun k _ => (Rounds.body_intro ER (ringRd (blockA m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the duties -/

/-- The tokens of the duties device `c` pays. -/
def payToks (c : Dev nD) : sProp 𝕄 :=
  iprop((dutyTok ER (barCell (prv c)) 0 true ∗ dutyTok ER (barCell (nxt c)) 0 false)
    ∗ bigSep Finset.univ (fun j : Xfer => dutyTok ER (sendCell c j) 0 false) ∗ bigSep Finset.univ (fun j : Xfer => dutyTok ER (recvCell (nbr c j) j) 0 false))

/-- A device's positions at its cells. -/
def positions (c : Dev nD) : sProp 𝕄 := bigSep Finset.univ fun k : Key => atPos ER (kcell (c, k)) 0 ∅ 0

omit [FloatOps F] in
/-- The tokens dealt around the ring: each to the device that pays it. -/
theorem toks_around : (bigSep Finset.univ fun c : Dev nD => (toks (F := F) c)) ⊢ bigSep Finset.univ fun c : Dev nD => payToks (F := F) c := by
  have hr : (bigSep Finset.univ fun c : Dev nD => bigSep Finset.univ fun j : Xfer => (dutyTok ER (recvCell c j) 0 false : sProp 𝕄))
      = bigSep Finset.univ fun c : Dev nD => bigSep Finset.univ fun j : Xfer => (dutyTok ER (recvCell (nbr c j) j) 0 false : sProp 𝕄) := by
    rw [bigSep_univ_comm, bigSep_univ_comm (fun (c : Dev nD) (j : Xfer) => (dutyTok ER (recvCell (nbr c j) j) 0 false : sProp 𝕄))]
    exact bigSep_congr fun j _ => bigSep_univ_equiv (shift j) (fun c : Dev nD => (dutyTok ER (recvCell c j) 0 false : sProp 𝕄))
  unfold toks payToks
  simp only [both_eq]
  rw [hr, bigSep_univ_equiv ring.symm (fun c : Dev nD => (dutyTok ER (barCell c) 0 true : sProp 𝕄)),
    bigSep_univ_equiv ring (fun c : Dev nD => (dutyTok ER (barCell c) 0 false : sProp 𝕄))]
  exact Entails.of_eq rfl

omit [FloatOps F] in
theorem linear_intro (c : Dev nD) : iprop(positions (F := F) c ∗ payToks (F := F) c) ⊢ linear (F := F) c := by
  have hp : bigSep Finset.univ (part (F := F) c) = iprop(bigSep Finset.univ (fun j : Xfer => (dutyTok ER (sendCell c j) 0 false : sProp 𝕄))
      ∗ bigSep Finset.univ (fun j : Xfer => (dutyTok ER (recvCell (nbr c j) j) 0 false : sProp 𝕄))
      ∗ bigSep Finset.univ (fun j : Xfer => (atPos ER (sendCell c j) 0 ∅ 0 : sProp 𝕄))
      ∗ bigSep Finset.univ (fun j : Xfer => (atPos ER (recvCell c j) 0 ∅ 0 : sProp 𝕄))) := by
    unfold part; simp only [both_eq]
  unfold linear positions payToks
  rw [hp, keys_eq]
  iintro ⟨⟨HB, HS, HR⟩, ⟨H1, H2⟩, H3, H4⟩
  isplitl [HB]; · iexact HB
  isplitl [H1]; · iexact H1
  isplitl [H2]; · iexact H2
  isplitl [H3]; · iexact H3
  isplitl [H4]; · iexact H4
  isplitl [HS]; · iexact HS
  iexact HR

omit [FloatOps F] in
/-- A fact known to all goes to every member of a family. -/
theorem with_known {I : Type} {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  classical
  exact (sep_mono_left (BI.bigSep_of_persistent S R)).trans (by rw [← both_eq]; exact bigSep_mono h)

theorem regroup :
    (bigSep Finset.univ fun c : Dev nD => iprop((bigSep Finset.univ fun k : Key => iprop(∃ κ : ℕ, cellInv ER (ringRd (blockA m)) κ (kcell (c, k))))
          ∗ (bigSep Finset.univ fun k : Key => iprop(atPos ER (kcell (c, k)) 0 ∅ 0 ∗ reached ER (kcell (c, k)) 0)) ∗ toks (F := F) c) : sProp 𝕄)
      ⊢ bigSep Finset.univ (G' m) := by
  classical
  simp only [both_eq]
  rw [← bigSep_univ_prod (fun ck : Dev nD × Key => iprop(∃ κ : ℕ, cellInv ER (ringRd (blockA m)) κ (kcell ck))),
    ← bigSep_univ_prod (fun ck : Dev nD × Key => (reached ER (kcell ck) 0 : sProp 𝕄))]
  iintro ⟨HI, ⟨Hat, #HR⟩, Htok⟩
  ihave HK := (BI.bigSep_exists_pi Finset.univ (fun (ck : Dev nD × Key) (κ : ℕ) => (cellInv ER (ringRd (blockA m)) κ (kcell ck) : sProp 𝕄))) $$ HI
  icases HK with ⟨%K, #HI⟩
  ihave Htk := (toks_around (F := F)) $$ Htok
  have hl (c : Dev nD) : iprop(known m K ∗ iprop(positions (F := F) c ∗ payToks (F := F) c)) ⊢ G' m c := by
    unfold G'
    iintro ⟨#HK, H⟩
    iexists K
    isplitr; · iexact HK
    iapply (linear_intro (F := F) c); iexact H
  iapply (with_known (R := known m K) fun c _ => hl c)
  isplitr
  · unfold known; isplitl; · iexact HI
    iexact HR
  · simp only [both_eq]
    isplitl [Hat]; · iexact Hat
    iexact Htk

/-- The own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem cell_eq_iff {a b : Dev nD} {k k' : Key} : Iff (kcell (a, k) = kcell (b, k')) (a = b ∧ k = k') :=
  ⟨fun h => Prod.mk.inj (kcell_injective h), fun ⟨h, h'⟩ => by rw [h, h']⟩

/-- No device owes a handshake for its transfers. -/
theorem dueX_bar (d c : Dev nD) : dueX d Finset.univ (barCell c) () = 0 := by
  by_contra h
  obtain ⟨j, -, e⟩ := dueX_pos d _ (Nat.pos_of_ne_zero h)
  cases (cell_eq_iff (k := none) (k' := some (true, j)).mp e).2

/-- What device `d` owes device `c`'s handshake. -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, dueX_bar, tallyAt_apply, tallyAt_apply, Nat.zero_add]
  congr 1
  · by_cases h : d = prv c
    · subst h; rw [nxt_prv, if_pos ⟨rfl, rfl⟩, if_pos rfl]
    · rw [if_neg (fun ⟨h1, _⟩ => h (by rw [← prv_nxt d]; exact congrArg prv (cell_eq_iff (k := none) (k' := none).mp h1).1.symm)), if_neg h]
  · by_cases h : d = nxt c
    · subst h; rw [prv_nxt, if_pos ⟨rfl, rfl⟩, if_pos rfl]
    · rw [if_neg (fun ⟨h1, _⟩ => h (by rw [← nxt_prv d]; exact congrArg nxt (cell_eq_iff (k := none) (k' := none).mp h1).1.symm)), if_neg h]

/-- What device `d` owes device `c`'s receiver's cell of transfer `j`. -/
theorem owed_recv (d c : Dev nD) (j : Xfer) : O₀ d (recvCell c j) () = if d = giver c j then N else 0 := by
  have hb (a : Dev nD) : ¬(recvCell c j = barCell a ∧ () = ()) := fun h => by
    cases (cell_eq_iff (k := some (true, j)) (k' := none).mp h.1).2
  have hx : dueX d Finset.univ (recvCell c j) () = if recvCell c j = recvCell (nbr d j) j then N else 0 := by
    have hs : dueX d Finset.univ (recvCell c j) () = tallyAt (recvCell (nbr d j) j) () N (recvCell c j) () := by
      rw [dueX_erase d (Finset.mem_univ j), Pi.add_apply, Finsupp.add_apply]
      have h0 : dueX d (Finset.univ.erase j) (recvCell c j) () = 0 := by
        by_contra h
        obtain ⟨j', hj', e⟩ := dueX_pos d _ (Nat.pos_of_ne_zero h)
        have := (cell_eq_iff (k := some (true, j)) (k' := some (true, j')).mp e).2
        exact Finset.ne_of_mem_erase hj' (Prod.mk.inj (Option.some.inj this)).2.symm
      rw [h0, Nat.zero_add]
    rw [hs, tallyAt_apply]
    simp only [and_true]
  unfold O₀ O₁
  rw [Pi.add_apply, Finsupp.add_apply, Pi.add_apply, Finsupp.add_apply, tallyAt_apply, tallyAt_apply, if_neg (hb _), if_neg (hb _), hx]
  show (if recvCell c j = recvCell (nbr d j) j then N else 0) = _
  by_cases h : d = giver c j
  · subst h; rw [nbr_giver, if_pos rfl, if_pos rfl]
  · have h2 (h1 : recvCell c j = recvCell (nbr d j) j) : c = nbr d j := (cell_eq_iff (k := some (true, j)) (k' := some (true, j)).mp h1).1
    rw [if_neg (fun h1 => h ((giver_nbr d j).symm.trans (congrArg (fun x => giver x j) (h2 h1).symm))), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (j : Xfer) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (giver c j) fun _ => N,
    if_pos (Finset.mem_univ _)]

/-- The semaphores others raise: the handshake's, and each transfer's receiver's. -/
def raised : Unit ⊕ Xfer → SemLoc sig
  | .inl _ => ksem none
  | .inr j => ksem (some (true, j))

theorem raised_injective : Function.Injective raised := by
  rintro (a | j) (b | j') h
  · rfl
  · have h : ksem none = ksem (some (true, j')) := h
    cases ksem_inj h
  · have h : ksem (some (true, j)) = ksem none := h
    cases ksem_inj h
  · have h : ksem (some (true, j)) = ksem (some (true, j')) := h
    exact congrArg Sum.inr (Prod.mk.inj (Option.some.inj (ksem_inj h))).2

omit [FloatOps F] in
theorem creds (c : Dev nD) : (Pipeline.launchCred O₀ c : sProp 𝕄) ⊢ credits (F := F) c := by
  have e : bigSep (Finset.univ.map ⟨raised, raised_injective⟩)
      (fun sm => (cred (tallyOn ((c.tc : Thread nD τ), sm) (launchCredit (Pipeline.owing O₀) 0 ((c.tc : Thread nD τ), sm))) : sProp 𝕄)) = credits (F := F) c := by
    unfold credits
    rw [bigSep_map, sum_eq, bigSep_univ_of_subsingleton ()]
    refine congrArg₂ (fun X Y : sProp 𝕄 => iprop(X ∗ Y)) ?_ (bigSep_congr fun j _ => ?_)
    · exact congrArg cred (launch_bar c)
    · exact congrArg cred (launch_recv c j)
  rw [← e]
  unfold Pipeline.launchCred
  exact bigSep_subset (Finset.subset_univ _)

/-! ## The launch theorem's side conditions -/

theorem share_eq (c : Dev nD) (w : Fin cfg0.W) : (dats m ρ 0 c).share w = fullShare := by unfold Dat.share; split <;> rfl

set_option maxRecDepth 20000 in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' known records
  iintro ⟨-, #Hlev, Hcr, -, ⟨%κ, ⟨#HI, #HR⟩, HG⟩⟩
  ihave Hc := (creds (F := F) c) $$ Hcr
  imodintro
  isplitl
  · isplitl [HG]
    · iexists κ
      isplitr
      · isplitr; · iexact HI
        isplitr; · iexact HR
        iexact Hlev
      iexact HG
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch zeros
  iintro ⟨Hr, HzB, HzS, HzR⟩
  isplitl [HzB]; · iexact HzB
  isplitl [HzS HzR]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (keyOf_stage _ (stage_val w s)) _ (by
      rcases t with ⟨_ | _, ht⟩
      · exact Or.inl rfl
      · exact Or.inr rfl)

/-! ## The run -/

/-- Device `c`'s array of window `w` at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 20000 in
/-- From any memory with zero counters, for any float values: every weakly fair execution of the sixteen devices
    terminates, and every final state has each window's array at its computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The final arrays -/

/-- The left factor's array ends as it was. -/
theorem finalA_0 (c : Dev nD) : finalA m ρ c (0 : Fin 3) = m ((c : Thread nD τ).loc main_arg0) :=
  (dats (F := F) m ρ 0 c).arrAt_in (0 : Fin 3) rfl _
/-- The right factor's array ends as it was. -/
theorem finalA_1 (c : Dev nD) : finalA m ρ c (1 : Fin 3) = m ((c : Thread nD τ).loc main_arg1) :=
  (dats (F := F) m ρ 0 c).arrAt_in (1 : Fin 3) rfl _

/-- Every execution of the sixteen devices terminates with both arguments unchanged and every counter at zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c (0 : Fin 3)).trans (finalA_0 m ρ c), (h.1 c (1 : Fin 3)).trans (finalA_1 m ρ c)⟩, h.2⟩)
    (run_main m ρ)

end Cert.KernelIdeal.Ring

end
-- ==== Proof.Value.lean ====
/-
What the sixteen devices compute, at the ideal values.

Each device's result is the whole left factor times the right factor: its row `i` is the product of a row of half a
block of some device, and that row is row `i` of the whole left factor.
-/
module

public import proofs.«01_k».proof.Proof.Run
public import proofs.«01_k».proof.Proof.Gen.ReferenceIdeal
public import Idealize.ShloMosaic.Lib.Layout
public import Idealize.ShloMosaic.Lib.MatmulPlain
public import Idealize.ShloMosaic.Lib.StackMember

@[expose] public section

noncomputable section

namespace Cert.KernelIdeal.Ring

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (m : (ℓ : Loc nD τ sig) → Buf (Elt F) ℓ) (ρ : Dev nD → PrngReg)

/-! ## The arrays as staged and as written back -/

/-- The staged block of the left factor is the device's argument; -/
theorem blockA_eq (c : Dev nD) : blockA m c = m ((c : Thread nD τ).loc main_arg0) := by
  unfold blockA iblk
  exact Memref.read_access_unit_zero (Elt F) main_arg0 (funext fun a => by fin_cases a <;> decide) (fun a => by fin_cases a <;> decide) _

/-- and so is the staged right factor. -/
theorem blockB_eq (c : Dev nD) : blockB m c = m ((c : Thread nD τ).loc main_arg1) := by
  unfold blockB iblk
  exact Memref.read_access_unit_zero (Elt F) main_arg1 (funext fun a => by fin_cases a <;> decide) (fun a => by fin_cases a <;> decide) _

/-- The result array ends as the body left its staging buffer. -/
theorem finalA_2 (c : Dev nD) : finalA m ρ c (2 : Fin 3) = result m c := by
  have h : (win0_2.blk (0 : Fin 1)).view.read (Elt F) (finalA m ρ c (2 : Fin 3)) = result m c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from flush0_2 _, if_pos rfl]
    exact View.read_write_univ _ _
  exact (Memref.read_access_unit_zero (Elt F) main_v1 (funext fun a => by fin_cases a <;> decide) (fun a => by fin_cases a <;> decide) _).symm.trans h

/-! ## The result's entries -/

/-- Row `r` of half `b` of a device's block is its row `256 b + r`. -/
theorem chunk_apply (A : Dev nD → Vec F S512x256 .f32) (d : Dev nD) (b : Fin 2) (r k : Fin 256) :
    chunk A d b (ix2 r k) = A d (ix2 ⟨256 * b.val + r.val, by omega⟩ k) := by
  unfold chunk
  refine (congrFun (shapeCast_self (s := S256x256) _ _) _).trans ?_
  refine congrArg (A d) (funext fun a => Fin.ext ?_)
  show ((rectA b).emb (ix2 r k) a : Nat) = _
  rw [Rect.emb_apply]
  match a with
  | ⟨0, _⟩ => show 256 * b.val + 1 * r.val = _; rw [Nat.one_mul]
  | ⟨1, _⟩ => show 0 + 1 * k.val = _; rw [Nat.one_mul, Nat.zero_add]

/-- The right factor as loaded is the right factor. -/
theorem factor_eq (B : Dev nD → Vec F S256x512 .f32) (c : Dev nD) : factor B c = B c := by
  unfold factor
  funext i
  refine congrArg (B c) (funext fun a => Fin.ext ?_)
  show (rectB.emb i a : Nat) = _
  rw [Rect.emb_apply]
  match a with
  | ⟨0, _⟩ => show 0 + 1 * (i 0).val = _; rw [Nat.one_mul, Nat.zero_add]; rfl
  | ⟨1, _⟩ => show 0 + 1 * (i 1).val = _; rw [Nat.one_mul, Nat.zero_add]; rfl

/-- An entry of the product of a half block: the sum of the products along the row and the column. -/
theorem prod_apply (x : Vec Ideal S256x256 .f32) (y : Vec Ideal S256x512 .f32) (r : Fin 256) (l : Fin 512) :
    prod x y (ix2 r l) = ∑ k : Fin 256, x (ix2 r k) * y (ix2 k l) := by
  unfold prod
  rw [shapeCast_self]
  refine (Ideal.matmul_plain_apply none x y (constant S256x512 .f32 0x00000000#32) r l).trans ?_
  show Ideal.ofBits .f32 0x00000000#32 + _ = _
  rw [Ideal.ofBits_zero_f32, zero_add]

/-- Where every device's block is its block of one whole left factor, and every device has the same right factor, each
    result is the whole product. -/
theorem outAt_eq (X : FVec Ideal ⟨2, ![8192, 256]⟩ .f32) (Y : FVec Ideal ⟨2, ![256, 512]⟩ .f32)
    (A : Dev nD → Vec Ideal S512x256 .f32) (B : Dev nD → Vec Ideal S256x512 .f32)
    (hA : ∀ d : Dev nD, A d = Layout.block ⟨2, ![512, 256]⟩ ⟨2, ![8192, 256]⟩ 0 16 d X) (c : Dev nD) (hB : B c = Y) :
    outAt A B c = Host.dotGeneral (F := Ideal) (φ₁ := .f32) (φ₂ := .f32) (DotDims.plain 8192 256 512) none X Y := by
  funext i
  obtain ⟨r, l, rfl⟩ : ∃ (r : Fin 8192) (l : Fin 512), i = ix2 r l := ⟨_, _, eq_ix2 i⟩
  refine Eq.trans ?_ (StackMember.dotGeneral_plain_apply none X Y r l).symm
  unfold outAt
  rw [factor_eq, hB, show rowIn (ix2 r l) = ix2 ⟨r.val % 256, Nat.mod_lt _ (by decide)⟩ l from by
    funext a; match a with
    | ⟨0, _⟩ => rfl
    | ⟨1, _⟩ => rfl, prod_apply]
  refine Finset.sum_congr rfl fun k _ => congrArg (· * _) ?_
  rw [chunk_apply, hA, Layout.block_apply]
  refine congrArg X (funext fun a => Fin.ext ?_)
  match a with
  | ⟨0, _⟩ =>
    show r.val / 512 * 512 + (256 * (r.val % 512 / 256) + r.val % 256) = r.val
    omega
  | ⟨1, _⟩ => rfl

end Cert.KernelIdeal.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

set_option maxRecDepth 100000 in
/-- The two programs' bodies are one. -/
theorem body_same {F : FTy → Type} [FloatOps F] :
    @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun ℓ => funext fun a => ?_)
  match ℓ, a with
  | ⟨0, _⟩, (t, s) => rfl

set_option maxRecDepth 100000 in
/-- The two programs' tables are one. -/
theorem table_same {F : FTy → Type} [FloatOps F] :
    @Cert.Kernel.defs F _ Cert.Kernel.Gen.facts = @Cert.KernelIdeal.defs F _ Cert.KernelIdeal.Gen.facts :=
  congrArg (Pipeline.defs (Cert.KernelIdeal.pcfgs (F := F))) body_same

/-- The kernel terminates on every device, its arguments unchanged and every counter at zero. The two kernel programs
    have one text, so this is the ideal program's run at bit patterns. -/
theorem frame_kernel : Cert.quiescent_Kernel (hKernel := Cert.Kernel.Gen.facts) := fun m ρ _ => by
  rw [table_same]
  exact Cert.KernelIdeal.Ring.run_frame (F := Bits) m ρ

/-- The same of the ideal program. -/
theorem frame_ideal : Cert.quiescent_KernelIdeal (hKernelIdeal := Cert.KernelIdeal.Gen.facts) := fun m ρ _ =>
  Cert.KernelIdeal.Ring.run_frame (F := Ideal) m ρ

/-- The reference terminates, its arguments unchanged and every counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From blocks of one whole left factor and copies of one right factor, every device ends with the reference's product. -/
theorem same_product : Cert.algebraic_KernelIdeal_ReferenceIdeal (hKernelIdeal := Cert.KernelIdeal.Gen.facts) (hReferenceIdeal := Cert.ReferenceIdeal.Gen.facts) := by
  intro m g m' g' _ hm
  refine ⟨Host.dotGeneral (F := Ideal) (φ₁ := .f32) (φ₂ := .f32) (DotDims.plain 8192 256 512) none
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨?_, (h.1 c 0).trans (Cert.KernelIdeal.Ring.finalA_0 (F := Ideal) m g c),
      (h.1 c 1).trans (Cert.KernelIdeal.Ring.finalA_1 (F := Ideal) m g c)⟩) (Cert.KernelIdeal.Ring.run_main (F := Ideal) m g)
    refine ((h.1 c 2).trans (Cert.KernelIdeal.Ring.finalA_2 (F := Ideal) m g c)).trans ?_
    exact Cert.KernelIdeal.Ring.outAt_eq _ _ _ _ (fun d => (Cert.KernelIdeal.Ring.blockA_eq (F := Ideal) m d).trans (hm d).1) c
      ((Cert.KernelIdeal.Ring.blockB_eq (F := Ideal) m c).trans (hm c).2)
  · exact (θ_run Cert.ReferenceIdeal.defs _ _).mono (fun _ h => h 0) (Cert.ReferenceIdeal.Value.run (F := Ideal) m' g')

theorem claim : Cert.Claim := ⟨Cert.Kernel.Gen.facts, Cert.KernelIdeal.Gen.facts, Cert.ReferenceIdeal.Gen.facts,
  frame_kernel, frame_ideal, frame_reference, trivial, same_product⟩

end Cert.Proof

end
